-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 512, 8, 64]⟩ ⟨4, ![2, 4096, 8, 64]⟩ 1 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.block ⟨4, ![2, 512, 8, 64]⟩ ⟨4, ![2, 4096, 8, 64]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)

variable [Facts]

def fn {F : FTy → Type} [FloatOps F] (main_arg0 : FVec F S2x512x8x64 .bf16) (main_arg1 : FVec F S2x512x8x64 .bf16) (main_arg2 : FVec F S2x512x8x64 .bf16) : IVec S2x512x8x64 1 × IVec S2x512x8x64 1 :=
  let main_v0 : FVec F S2x512x8x64 .bf16 := Host.absf main_arg0
  let main_cst : FVec F S_ .bf16 := constant S_ .bf16 0x7F80#16
  let main_v1 : FVec F S2x512x8x64 .bf16 := broadcastInDim S2x512x8x64 ![] bcast_S_S2x512x8x64 main_cst
  let main_v2 : IVec S2x512x8x64 1 := cmpf .olt main_v0 main_v1
  let main_v3 : FVec F S2x512x8x64 .bf16 := Host.absf main_arg1
  let main_cst_0 : FVec F S_ .bf16 := constant S_ .bf16 0x7F80#16
  let main_v4 : FVec F S2x512x8x64 .bf16 := broadcastInDim S2x512x8x64 ![] bcast_S_S2x512x8x64 main_cst_0
  let main_v5 : IVec S2x512x8x64 1 := cmpf .olt main_v3 main_v4
  (main_v2, main_v5)
-- ==== Pre_finite_qk_ReferenceIdeal.lean ====
abbrev S2x4096x8x64 : Shape := ⟨4, ![2, 4096, 8, 64]⟩
abbrev S_ : Shape := ⟨0, ![]⟩

class Facts : Prop where
  bcast_S_S2x4096x8x64 : S_.BroadcastsInDim S2x4096x8x64 (![] : Fin 0 → Fin S2x4096x8x64.rank)

variable [Facts]

def fn {F : FTy → Type} [FloatOps F] (main_arg0 : FVec F S2x4096x8x64 .bf16) (main_arg1 : FVec F S2x4096x8x64 .bf16) (main_arg2 : FVec F S2x4096x8x64 .bf16) : IVec S2x4096x8x64 1 × IVec S2x4096x8x64 1 :=
  let main_v0 : FVec F S2x4096x8x64 .bf16 := Host.absf main_arg0
  let main_cst : FVec F S_ .bf16 := constant S_ .bf16 0x7F80#16
  let main_v1 : FVec F S2x4096x8x64 .bf16 := broadcastInDim S2x4096x8x64 ![] bcast_S_S2x4096x8x64 main_cst
  let main_v2 : IVec S2x4096x8x64 1 := cmpf .olt main_v0 main_v1
  let main_v3 : FVec F S2x4096x8x64 .bf16 := Host.absf main_arg1
  let main_cst_0 : FVec F S_ .bf16 := constant S_ .bf16 0x7F80#16
  let main_v4 : FVec F S2x4096x8x64 .bf16 := broadcastInDim S2x4096x8x64 ![] bcast_S_S2x4096x8x64 main_cst_0
  let main_v5 : IVec S2x4096x8x64 1 := cmpf .olt main_v3 main_v4
  (main_v2, main_v5)
-- ==== Kernel.lean ====
abbrev S2x512x8x64 : Shape := ⟨4, ![2, 512, 8, 64]⟩
abbrev S2x8x512x64 : Shape := ⟨4, ![2, 8, 512, 64]⟩
abbrev S16x512x64 : Shape := ⟨3, ![16, 512, 64]⟩
abbrev S2x8x64x512 : Shape := ⟨4, ![2, 8, 64, 512]⟩
abbrev S16x64x512 : Shape := ⟨3, ![16, 64, 512]⟩
abbrev S8x2x8x64x512 : Shape := ⟨5, ![8, 2, 8, 64, 512]⟩
abbrev S16x512 : Shape := ⟨2, ![16, 512]⟩
abbrev S7 : Shape := ⟨1, ![7]⟩
abbrev S_ : Shape := ⟨0, ![]⟩
abbrev S1 : Shape := ⟨1, ![1]⟩
abbrev S1x1x8x64x512 : Shape := ⟨5, ![1, 1, 8, 64, 512]⟩
abbrev S8x64x512 : Shape := ⟨3, ![8, 64, 512]⟩
abbrev S4x64x512 : Shape := ⟨3, ![4, 64, 512]⟩
abbrev S4x512x64 : Shape := ⟨3, ![4, 512, 64]⟩
abbrev S4x512x512 : Shape := ⟨3, ![4, 512, 512]⟩
abbrev S4x512 : Shape := ⟨2, ![4, 512]⟩
abbrev S1x1x4x64x512 : Shape := ⟨5, ![1, 1, 4, 64, 512]⟩
abbrev S4x1x512 : Shape := ⟨3, ![4, 1, 512]⟩

abbrev nBuf : Space → Nat
  | .hbm => 12
  | .vmem => 7
  | .smem => 0
  | _ => 0

abbrev bufTy : (tb : Table) → Fin (tcTables nBuf tb) → BufTy
  | .hbm, ⟨0, _⟩ => ⟨S2x512x8x64, .bf16⟩
  | .hbm, ⟨1, _⟩ => ⟨S2x512x8x64, .bf16⟩
  | .hbm, ⟨2, _⟩ => ⟨S2x512x8x64, .bf16⟩
  | .hbm, ⟨3, _⟩ => ⟨S2x8x512x64, .bf16⟩
  | .hbm, ⟨4, _⟩ => ⟨S16x512x64, .bf16⟩
  | .hbm, ⟨5, _⟩ => ⟨S2x8x64x512, .bf16⟩
  | .hbm, ⟨6, _⟩ => ⟨S16x64x512, .bf16⟩
  | .hbm, ⟨7, _⟩ => ⟨S2x8x64x512, .bf16⟩
  | .hbm, ⟨8, _⟩ => ⟨S16x64x512, .bf16⟩
  | .hbm, ⟨9, _⟩ => ⟨S16x64x512, .f32⟩
  | .hbm, ⟨10, _⟩ => ⟨S2x8x64x512, .f32⟩
  | .hbm, ⟨11, _⟩ => ⟨S2x512x8x64, .f32⟩
  | .local _ .vmem, ⟨0, _⟩ => ⟨S16x512x64, .bf16⟩
  | .local _ .vmem, ⟨1, _⟩ => ⟨S16x64x512, .bf16⟩
  | .local _ .vmem, ⟨2, _⟩ => ⟨S16x64x512, .bf16⟩
  | .local _ .vmem, ⟨3, _⟩ => ⟨S16x64x512, .f32⟩
  | .local _ .vmem, ⟨4, _⟩ => ⟨S8x2x8x64x512, .bf16⟩
  | .local _ .vmem, ⟨5, _⟩ => ⟨S8x2x8x64x512, .bf16⟩
  | .local _ .vmem, ⟨6, _⟩ => ⟨S16x512, .f32⟩
  | _, _ => ⟨S2x512x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_14 : BitVec 32 := 1#32
  let v26 : BitVec 32 := Scalar.muli v24 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_17 : BitVec 32 := 1#32
  let v28 : BitVec 32 := Scalar.muli v13 c1_i32_17
  let v29 : BitVec 32 := Scalar.addi c0_i32_18 v28
  v29.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_23 : BitVec 32 := 1#32
  let v30 : BitVec 32 := Scalar.muli v13 c1_i32_23
  let v31 : BitVec 32 := Scalar.addi c0_i32_24 v30
  v31.toNat
def k0_dev4 (d0 : Dev nD) : Nat :=
  let c0_i32_36 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_35 : BitVec 32 := 1#32
  let v39 : BitVec 32 := Scalar.muli v24 c1_i32_35
  let v40 : BitVec 32 := Scalar.addi c0_i32_36 v39
  v40.toNat
def k0_dev5 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_78 : BitVec 32 := 1#32
  let v88 : BitVec 32 := Scalar.muli v13 c1_i32_78
  let v89 : BitVec 32 := Scalar.addi c0_i32_79 v88
  v89.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_90 : BitVec 32 := 1#32
  let v97 : BitVec 32 := Scalar.muli v24 c1_i32_90
  let v98 : BitVec 32 := Scalar.addi c0_i32_91 v97
  v98.toNat
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_152 : BitVec 32 := 1#32
  let v141 : BitVec 32 := Scalar.muli v13 c1_i32_152
  let v142 : BitVec 32 := Scalar.addi c0_i32_153 v141
  v142.toNat
def k0_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_178 : BitVec 32 := 1#32
  let v158 : BitVec 32 := Scalar.muli v24 c1_i32_178
  let v159 : BitVec 32 := Scalar.addi c0_i32_179 v158
  v159.toNat
def k0_dev9 (d0 : Dev nD) : Nat :=
  let c0_i32_248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_247 : BitVec 32 := 1#32
  let v215 : BitVec 32 := Scalar.muli v13 c1_i32_247
  let v216 : BitVec 32 := Scalar.addi c0_i32_248 v215
  v216.toNat
def k0_dev10 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_273 : BitVec 32 := 1#32
  let v232 : BitVec 32 := Scalar.muli v24 c1_i32_273
  let v233 : BitVec 32 := Scalar.addi c0_i32_274 v232
  v233.toNat
def k0_dev11 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_364 : BitVec 32 := 1#32
  let v298 : BitVec 32 := Scalar.muli v13 c1_i32_364
  let v299 : BitVec 32 := Scalar.addi c0_i32_365 v298
  v299.toNat
def k0_dev12 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_392 : BitVec 32 := 1#32
  let v316 : BitVec 32 := Scalar.muli v24 c1_i32_392
  let v317 : BitVec 32 := Scalar.addi c0_i32_393 v316
  v317.toNat
def k0_dev13 (d0 : Dev nD) : Nat :=
  let c0_i32_464 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v374 : BitVec 32 := Scalar.muli v13 c1_i32_463
  let v375 : BitVec 32 := Scalar.addi c0_i32_464 v374
  v375.toNat
def k0_dev14 (d0 : Dev nD) : Nat :=
  let c0_i32_492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_491 : BitVec 32 := 1#32
  let v392 : BitVec 32 := Scalar.muli v24 c1_i32_491
  let v393 : BitVec 32 := Scalar.addi c0_i32_492 v392
  v393.toNat
def k0_dev15 (d0 : Dev nD) : Nat :=
  let c0_i32_583 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_582 : BitVec 32 := 1#32
  let v458 : BitVec 32 := Scalar.muli v13 c1_i32_582
  let v459 : BitVec 32 := Scalar.addi c0_i32_583 v458
  v459.toNat
def k0_dev16 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_610 : BitVec 32 := 1#32
  let v476 : BitVec 32 := Scalar.muli v24 c1_i32_610
  let v477 : BitVec 32 := Scalar.addi c0_i32_611 v476
  v477.toNat
def k0_dev17 (d0 : Dev nD) : Nat :=
  let c0_i32_682 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_681 : BitVec 32 := 1#32
  let v534 : BitVec 32 := Scalar.muli v13 c1_i32_681
  let v535 : BitVec 32 := Scalar.addi c0_i32_682 v534
  v535.toNat
def k0_dev18 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_709 : BitVec 32 := 1#32
  let v552 : BitVec 32 := Scalar.muli v24 c1_i32_709
  let v553 : BitVec 32 := Scalar.addi c0_i32_710 v552
  v553.toNat
def k0_dev19 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_800 : BitVec 32 := 1#32
  let v618 : BitVec 32 := Scalar.muli v13 c1_i32_800
  let v619 : BitVec 32 := Scalar.addi c0_i32_801 v618
  v619.toNat
def k0_dev20 (d0 : Dev nD) : Nat :=
  let c0_i32_829 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_828 : BitVec 32 := 1#32
  let v636 : BitVec 32 := Scalar.muli v24 c1_i32_828
  let v637 : BitVec 32 := Scalar.addi c0_i32_829 v636
  v637.toNat
def k0_dev21 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_900 : BitVec 32 := 1#32
  let v694 : BitVec 32 := Scalar.muli v13 c1_i32_900
  let v695 : BitVec 32 := Scalar.addi c0_i32_901 v694
  v695.toNat
def k0_dev22 (d0 : Dev nD) : Nat :=
  let c0_i32_929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_928 : BitVec 32 := 1#32
  let v712 : BitVec 32 := Scalar.muli v24 c1_i32_928
  let v713 : BitVec 32 := Scalar.addi c0_i32_929 v712
  v713.toNat
def k0_dev23 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1019 : BitVec 32 := 1#32
  let v778 : BitVec 32 := Scalar.muli v13 c1_i32_1019
  let v779 : BitVec 32 := Scalar.addi c0_i32_1020 v778
  v779.toNat
def k0_dev24 (d0 : Dev nD) : Nat :=
  let c0_i32_1048 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1047 : BitVec 32 := 1#32
  let v796 : BitVec 32 := Scalar.muli v24 c1_i32_1047
  let v797 : BitVec 32 := Scalar.addi c0_i32_1048 v796
  v797.toNat
def k0_dev25 (d0 : Dev nD) : Nat :=
  let c0_i32_1119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1118 : BitVec 32 := 1#32
  let v854 : BitVec 32 := Scalar.muli v13 c1_i32_1118
  let v855 : BitVec 32 := Scalar.addi c0_i32_1119 v854
  v855.toNat
def k0_dev26 (d0 : Dev nD) : Nat :=
  let c0_i32_1147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1146 : BitVec 32 := 1#32
  let v872 : BitVec 32 := Scalar.muli v24 c1_i32_1146
  let v873 : BitVec 32 := Scalar.addi c0_i32_1147 v872
  v873.toNat
def k0_dev27 (d0 : Dev nD) : Nat :=
  let c0_i32_1238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1237 : BitVec 32 := 1#32
  let v938 : BitVec 32 := Scalar.muli v13 c1_i32_1237
  let v939 : BitVec 32 := Scalar.addi c0_i32_1238 v938
  v939.toNat
def k0_dev28 (d0 : Dev nD) : Nat :=
  let c0_i32_1266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1265 : BitVec 32 := 1#32
  let v956 : BitVec 32 := Scalar.muli v24 c1_i32_1265
  let v957 : BitVec 32 := Scalar.addi c0_i32_1266 v956
  v957.toNat
def k0_dev29 (d0 : Dev nD) : Nat :=
  let c0_i32_1337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1336 : BitVec 32 := 1#32
  let v1014 : BitVec 32 := Scalar.muli v13 c1_i32_1336
  let v1015 : BitVec 32 := Scalar.addi c0_i32_1337 v1014
  v1015.toNat
def k0_dev30 (d0 : Dev nD) : Nat :=
  let c0_i32_1365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1364 : BitVec 32 := 1#32
  let v1032 : BitVec 32 := Scalar.muli v24 c1_i32_1364
  let v1033 : BitVec 32 := Scalar.addi c0_i32_1365 v1032
  v1033.toNat
abbrev stage0_0 : Fin 1 → Memref sig .tc .vmem S16x512x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x64x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x64x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x4096x8x64 : Shape := ⟨4, ![2, 4096, 8, 64]⟩
abbrev S2x8x4096x4096 : Shape := ⟨4, ![2, 8, 4096, 4096]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩

abbrev nBuf : Space → Nat
  | .hbm => 23
  | .vmem => 0
  | .smem => 0
  | _ => 0

abbrev bufTy : (tb : Table) → Fin (tcTables nBuf tb) → BufTy
  | .hbm, ⟨0, _⟩ => ⟨S2x4096x8x64, .bf16⟩
  | .hbm, ⟨1, _⟩ => ⟨S2x4096x8x64, .bf16⟩
  | .hbm, ⟨2, _⟩ => ⟨S2x4096x8x64, .bf16⟩
  | .hbm, ⟨3, _⟩ => ⟨S2x4096x8x64, .f32⟩
  | .hbm, ⟨4, _⟩ => ⟨S2x4096x8x64, .f32⟩
  | .hbm, ⟨5, _⟩ => ⟨S2x4096x8x64, .f32⟩
  | .hbm, ⟨6, _⟩ => ⟨S2x8x4096x4096, .f32⟩
  | .hbm, ⟨7, _⟩ => ⟨S_, .f32⟩
  | .hbm, ⟨8, _⟩ => ⟨S2x8x4096x4096, .f32⟩
  | .hbm, ⟨9, _⟩ => ⟨S2x8x4096x4096, .f32⟩
  | .hbm, ⟨10, _⟩ => ⟨S_, .f32⟩
  | .hbm, ⟨11, _⟩ => ⟨S2x8x4096, .f32⟩
  | .hbm, ⟨12, _⟩ => ⟨S2x8x4096x1, .f32⟩
  | .hbm, ⟨13, _⟩ => ⟨S2x8x4096x4096, .f32⟩
  | .hbm, ⟨14, _⟩ => ⟨S2x8x4096x4096, .f32⟩
  | .hbm, ⟨15, _⟩ => ⟨S2x8x4096x4096, .f32⟩
  | .hbm, ⟨16, _⟩ => ⟨S_, .f32⟩
  | .hbm, ⟨17, _⟩ => ⟨S2x8x4096, .f32⟩
  | .hbm, ⟨18, _⟩ => ⟨S2x8x4096x1, .f32⟩
  | .hbm, ⟨19, _⟩ => ⟨S2x8x4096x4096, .f32⟩
  | .hbm, ⟨20, _⟩ => ⟨S2x8x4096x4096, .f32⟩
  | .hbm, ⟨21, _⟩ => ⟨S2x8x64x4096, .f32⟩
  | .hbm, ⟨22, _⟩ => ⟨S2x4096x8x64, .f32⟩
  | _, _ => ⟨S2x4096x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Prog.lean ====
/- The kernel's body read as a program with a loop's shape: a handshake, eight ring steps, and the final waits. -/
module

public import proofs.«01_k».proof.Proof.Gen.KernelIdeal.Skeleton
public import Idealize.ShloMosaic.Lib.Pipeline.Regions

@[expose] public section

set_option synthInstance.maxSize 4096

noncomputable section

namespace Cert.Attn

open Idealize.ShloMosaic Idealize.SL.Sem Cert.KernelIdeal Cert.KernelIdeal.Gen

variable {F : FTy → Type} [FloatOps F]

/-! ## Windows of the buffers -/

/-- A slot lies within its buffer. -/
theorem inb_slot (t : Fin 8) (kv : Fin 2) :
    ∀ a, (![t.val, kv.val, 0, 0, 0] : Fin 5 → Nat) a + S1x1x8x64x512.size a ≤ S8x2x8x64x512.size a := by
  revert t kv; decide
/-- And is made of whole words. -/
theorem words_slot (t : Fin 8) (kv : Fin 2) :
    (Rect.unit (s := S8x2x8x64x512) ![t.val, kv.val, 0, 0, 0] S1x1x8x64x512.size (inb_slot t kv)).WholeWords (EltTy.packing .bf16) := by
  revert t kv; decide
/-- So does half of a slot. -/
theorem inb_part (t : Fin 8) (kv h : Fin 2) :
    ∀ a, (![t.val, kv.val, 4 * h.val, 0, 0] : Fin 5 → Nat) a + S1x1x4x64x512.size a ≤ S8x2x8x64x512.size a := by
  revert t kv h; decide
/-- Half of the heads lies within the array. -/
theorem inb_half (h : Fin 2) :
    ∀ a, (![8 * h.val, 0, 0] : Fin 3 → Nat) a + S8x64x512.size a ≤ S16x64x512.size a := by
  revert h; decide
/-- And is made of whole words. -/
theorem words_half (h : Fin 2) :
    (Rect.unit (s := S16x64x512) ![8 * h.val, 0, 0] S8x64x512.size (inb_half h)).WholeWords (EltTy.packing .bf16) := by
  revert h; decide
/-- A group's heads lie within the array. -/
theorem inb_heads (g : Fin 4) :
    ∀ a, (![4 * g.val, 0, 0] : Fin 3 → Nat) a + S4x64x512.size a ≤ S16x64x512.size a := by
  revert g; decide
/-- So do its rows of the queries. -/
theorem inb_rows (g : Fin 4) :
    ∀ a, (![4 * g.val, 0, 0] : Fin 3 → Nat) a + S4x512x64.size a ≤ S16x512x64.size a := by
  revert g; decide
/-- And its denominators. -/
theorem inb_den (g : Fin 4) :
    ∀ a, (![4 * g.val, 0] : Fin 2 → Nat) a + S4x512.size a ≤ S16x512.size a := by
  revert g; decide
/-- A semaphore lies within its array. -/
theorem inb_sem (i : Fin 7) : ∀ a, (![i.val] : Fin 1 → Nat) a + S1.size a ≤ S7.size a := by
  revert i; decide

/-- The queries. -/
abbrev qM : Memref sig .tc .vmem S16x512x64 .bf16 := Memref.whole cc0_stg0_0
/-- The keys. -/
abbrev kM : Memref sig .tc .vmem S16x64x512 .bf16 := Memref.whole cc0_stg1_0
/-- The values. -/
abbrev vM : Memref sig .tc .vmem S16x64x512 .bf16 := Memref.whole cc0_stg2_0
/-- The result. -/
abbrev oM : Memref sig .tc .vmem S16x64x512 .f32 := Memref.whole cc0_stg3_0
/-- The buffer that travels to the right. -/
abbrev rM : Memref sig .tc .vmem S8x2x8x64x512 .bf16 := Memref.whole cc0_scratch0
/-- The buffer that travels to the left. -/
abbrev lM : Memref sig .tc .vmem S8x2x8x64x512 .bf16 := Memref.whole cc0_scratch1
/-- The denominators. -/
abbrev dM : Memref sig .tc .vmem S16x512 .f32 := Memref.whole cc0_scratch2

/-- The two rings' receive buffers: `0` the one the left neighbour fills, `1` the one the right neighbour fills. -/
def bufM : Fin 2 → Memref sig .tc .vmem S8x2x8x64x512 .bf16 | 0 => rM | 1 => lM
/-- A ring buffer is a whole buffer. -/
theorem bufM_whole : ∀ d, (bufM d).IsWhole | 0 => Memref.isWhole_whole _ | 1 => Memref.isWhole_whole _
/-- The device's own keys (`0`) and values (`1`). -/
def ownM : Fin 2 → Memref sig .tc .vmem S16x64x512 .bf16 | 0 => kM | 1 => vM
/-- So are a device's own keys and values. -/
theorem ownM_whole : ∀ kv, (ownM kv).IsWhole | 0 => Memref.isWhole_whole _ | 1 => Memref.isWhole_whole _

/-- Send and receive semaphores, by ring and by keys/values. -/
def sendA : Fin 2 → Fin 2 → DmaSems sig S7
  | 0, 0 => cc0_scratch3 | 0, 1 => cc0_scratch5 | 1, 0 => cc0_scratch7 | 1, 1 => cc0_scratch9
/-- The receive semaphores, by direction and by keys or values. -/
def recvA : Fin 2 → Fin 2 → DmaSems sig S7
  | 0, 0 => cc0_scratch4 | 0, 1 => cc0_scratch6 | 1, 0 => cc0_scratch8 | 1, 1 => cc0_scratch10

/-- One semaphore of an array. -/
def semOf (a : DmaSems sig S7) (i : Fin 7) : DmaSem sig :=
  ((a.slice (Rect.unit (s := S7) ![i.val] S1.size (inb_sem i))).squeeze S_ squeezes_S1_S_).sem

/-- Slot `t` of a receive buffer, keys or values: eight heads. -/
def slotM (d : Fin 2) (t : Fin 8) (kv : Fin 2) : Memref sig .tc .vmem S8x64x512 .bf16 :=
  ((bufM d).slice (Rect.unit (s := S8x2x8x64x512) ![t.val, kv.val, 0, 0, 0] S1x1x8x64x512.size (inb_slot t kv)) (fun _ => rfl)).squeeze
    S8x64x512 squeezes_S1x1x8x64x512_S8x64x512
/-- A slot is made of whole words. -/
theorem slotM_words (d : Fin 2) (t : Fin 8) (kv : Fin 2) : (slotM d t kv).view.WordExact :=
  ((bufM_whole d).wordExact_slice rfl _ (words_slot t kv)).reshape _ _
/-- The half of the device's own keys or values that ring `d` carries. -/
def halfM (kv d : Fin 2) : Memref sig .tc .vmem S8x64x512 .bf16 :=
  (ownM kv).slice (Rect.unit (s := S16x64x512) ![8 * d.val, 0, 0] S8x64x512.size (inb_half d)) (fun _ => rfl)
/-- So is half of the own keys or values. -/
theorem halfM_words (kv d : Fin 2) : (halfM kv d).view.WordExact := (ownM_whole kv).wordExact_slice rfl _ (words_half d)

/-- The source of transfer `i` of ring `d`. -/
def srcM (d kv : Fin 2) : Fin 7 → Memref sig .tc .vmem S8x64x512 .bf16
  | 0 => halfM kv d | ⟨n + 1, h⟩ => slotM d ⟨n + 1, by omega⟩ kv
/-- And so is every transfer's source. -/
theorem srcM_words (d kv : Fin 2) : ∀ i, (srcM d kv i).view.WordExact
  | 0 => halfM_words kv d | ⟨n + 1, h⟩ => slotM_words d ⟨n + 1, by omega⟩ kv

/-! ## The program's pieces -/

/-- What a device's program may do. -/
abbrev EffT (F : FTy → Type) := TpuEff nD τ sig (Elt F) Λ₀ .tc
/-- A device's program. -/
abbrev P (F : FTy → Type) (α : Type) := Prog (EffT F) α

/-- The neighbour ring `d` sends to: `0` the right one, `1` the left one. -/
def toDev (c : Dev nD) : Fin 2 → Dev nD
  | 0 => ⟨k0_dev3 c, k0_dev3_lt c⟩ | 1 => ⟨k0_dev4 c, k0_dev4_lt c⟩

/-- Starts transfer `i`. -/
def send (c : Dev nD) (d kv : Fin 2) (i : Fin 7) : P F PUnit :=
  Prog.lift (.enqueueDma (srcM d kv i) (.remote (Dev.tc (toDev c d)) (slotM d i.succ kv) (.dma (semOf (sendA d kv) i)))
    (.dma (semOf (recvA d kv) i)) (srcM_words d kv i) (slotM_words d i.succ kv) ⟨⟨rfl, Or.inl rfl⟩, trivial⟩)
/-- Waits until transfer `i` has come in. -/
def waitRecv (d kv : Fin 2) (i : Fin 7) : P F PUnit :=
  Prog.lift (.waitDma2 (semOf (recvA d kv) i) (srcM d kv i) (slotM d i.succ kv) (srcM_words d kv i) (slotM_words d i.succ kv))
/-- Waits until transfer `i` has gone out. -/
def waitSend (d kv : Fin 2) (i : Fin 7) : P F PUnit :=
  Prog.lift (.waitDma2 (semOf (sendA d kv) i) (slotM d i.succ kv) (srcM d kv i) (slotM_words d i.succ kv) (srcM_words d kv i))

/-- Signals both neighbours and waits for both. -/
def handshake : P F (Dev nD) := do
  let d0 : Dev nD ← Prog.lift .deviceId
  semSignalWord (⟨k0_dev1 d0, k0_dev1_lt d0⟩ : Dev nD) ((SemArray.scalar (sig.barrier 0 rfl)) : Sems sig S_).sem 1#32
  semSignalWord (⟨k0_dev2 d0, k0_dev2_lt d0⟩ : Dev nD) ((SemArray.scalar (sig.barrier 0 rfl)) : Sems sig S_).sem 1#32
  semWaitWord ((SemArray.scalar (sig.barrier 0 rfl)) : Sems sig S_).sem 2#32
  pure d0

/-! ### Values -/

/-- A group's weights: the exponentials of the scaled scores. -/
def scoreV (k : FVec F S4x64x512 .bf16) (q : Vec F S4x512x64 .bf16) : FVec F S4x512x512 .f32 :=
  exp (mulf (matmul dot_S4x512x64_S4x64x512_S4x512x512_2_1_1_2_0_0 none (shapeCast S4x512x64 q shapeCasts_S4x512x64_S4x512x64) k
    (constant S4x512x512 .f32 0x00000000#32)) (broadcast S4x512x512 (Scalar.ofBits .f32 0x3E000000#32)))
/-- Their sums along the keys. -/
def rowsV (p : FVec F S4x512x512 .f32) : FVec F S4x512 .f32 :=
  multiReduction .add [2] S4x512 p 0x00000000#32 reduces_S4x512x512_S4x512 (.inl rfl) rfl
/-- Their product with the values. -/
def prodV (v : FVec F S4x64x512 .bf16) (p : FVec F S4x512x512 .bf16) : FVec F S4x64x512 .f32 :=
  matmul dot_S4x64x512_S4x512x512_S4x64x512_2_2_1_1_0_0 none v p (constant S4x64x512 .f32 0x00000000#32)
/-- Own keys or values, recast to the shape they have. -/
def ownV (k : Vec F S4x64x512 .bf16) : FVec F S4x64x512 .bf16 := shapeCast S4x64x512 k shapeCasts_S4x64x512_S4x64x512
/-- A slot's keys or values, without the slot's axes. -/
def bufV (k : Vec F S1x1x4x64x512 .bf16) : FVec F S4x64x512 .bf16 := shapeCast S4x64x512 k shapeCasts_S1x1x4x64x512_S4x64x512

/-- Loads a group's queries. -/
def loadQ (g : Fin 4) : P F (Vec F S4x512x64 .bf16) :=
  Prog.lift (.load qM (Rect.unit (s := S16x512x64) ![4 * g.val, 0, 0] S4x512x64.size (inb_rows g)).toLoadRect (View.loadsAt_vmem h_S4x512x64))
/-- Loads a group's own keys or values. -/
def loadOwn (kv : Fin 2) (g : Fin 4) : P F (Vec F S4x64x512 .bf16) :=
  Prog.lift (.load (ownM kv) (Rect.unit (s := S16x64x512) ![4 * g.val, 0, 0] S4x64x512.size (inb_heads g)).toLoadRect (View.loadsAt_vmem h_S4x64x512))
/-- Loads a group's keys or values off a slot. -/
def loadBuf (t : Fin 8) (kv d h : Fin 2) : P F (Vec F S1x1x4x64x512 .bf16) :=
  Prog.lift (.load (bufM d) (Rect.unit (s := S8x2x8x64x512) ![t.val, kv.val, 4 * h.val, 0, 0] S1x1x4x64x512.size (inb_part t kv h)).toLoadRect
    (View.loadsAt_vmem h_S1x1x4x64x512))
/-- Loads a group's denominators. -/
def loadDen (g : Fin 4) : P F (Vec F S4x512 .f32) :=
  Prog.lift (.load dM (Rect.unit (s := S16x512) ![4 * g.val, 0] S4x512.size (inb_den g)).toLoadRect (View.loadsAt_vmem h_S4x512))
/-- Stores them. -/
def storeDen (g : Fin 4) (x : FVec F S4x512 .f32) : P F PUnit :=
  Prog.lift (.store dM (Rect.unit (s := S16x512) ![4 * g.val, 0] S4x512.size (inb_den g))
    (shapeCast S4x512 x shapeCasts_S4x512_S4x512) Finset.univ (View.stores_vmem_bits_univ h_S4x512 rfl) (.inl rfl))
/-- Loads a group's result so far. -/
def loadOut (g : Fin 4) : P F (Vec F S4x64x512 .f32) :=
  Prog.lift (.load oM (Rect.unit (s := S16x64x512) ![4 * g.val, 0, 0] S4x64x512.size (inb_heads g)).toLoadRect (View.loadsAt_vmem h_S4x64x512))
/-- Stores it. -/
def storeOut (g : Fin 4) (x : FVec F S4x64x512 .f32) : P F PUnit :=
  Prog.lift (.store oM (Rect.unit (s := S16x64x512) ![4 * g.val, 0, 0] S4x64x512.size (inb_heads g)) x
    Finset.univ (View.stores_vmem_bits_univ h_S4x64x512 rfl) (.inl rfl))

/-- The ring whose buffer holds group `g`'s heads, and the half of the slot they are in. -/
def ringOf : Fin 4 → Fin 2 | 0 => 0 | 1 => 0 | 2 => 1 | 3 => 1
/-- Which half of a slot a group's heads are. -/
def partOf : Fin 4 → Fin 2 | 0 => 0 | 1 => 1 | 2 => 0 | 3 => 1

/-- A group's weights against the own keys. -/
def scoreFirst (g : Fin 4) : P F (FVec F S4x512x512 .f32) := do
  let k ← loadOwn 0 g
  let q ← loadQ g
  pure (scoreV (ownV k) q)
/-- A group's weights against the keys of slot `t`. -/
def scoreLater (t : Fin 8) (g : Fin 4) : P F (FVec F S4x512x512 .f32) := do
  let k ← loadBuf t 0 (ringOf g) (partOf g)
  let q ← loadQ g
  pure (scoreV (bufV k) q)

/-- Starts a group's sums. -/
def accFirst (g : Fin 4) (p : FVec F S4x512x512 .f32) : P F PUnit := do
  let v ← loadOwn 1 g
  let _ ← loadDen g
  storeDen g (rowsV p)
  let _ ← loadOut g
  storeOut g (prodV (ownV v) (truncf .bf16 p bitsLt_bf16_f32))
/-- The result so far, recast to the shape it has. -/
def castOut (o : Vec F S4x64x512 .f32) : FVec F S4x64x512 .f32 := shapeCast S4x64x512 o shapeCasts_S4x64x512_S4x64x512
/-- Adds slot `t` to a group's sums. -/
def accMid (t : Fin 8) (g : Fin 4) (p : FVec F S4x512x512 .f32) : P F PUnit := do
  let v ← loadBuf t 1 (ringOf g) (partOf g)
  let d ← loadDen g
  let _ ← loadDen g
  storeDen g (addf d (rowsV p))
  let o ← loadOut g
  let _ ← loadOut g
  storeOut g (addf (castOut o) (prodV (bufV v) (truncf .bf16 p bitsLt_bf16_f32)))
/-- The quotient of the two sums. -/
def quotV (o : FVec F S4x64x512 .f32) (d : FVec F S4x512 .f32) : FVec F S4x64x512 .f32 :=
  divf o (broadcastTo S4x64x512 (shapeCast S4x1x512 d shapeCasts_S4x512_S4x1x512) broadcasts_S4x1x512_S4x64x512)
/-- Adds the last slot and divides. -/
def accLast (g : Fin 4) (p : FVec F S4x512x512 .f32) : P F PUnit := do
  let v ← loadBuf 7 1 (ringOf g) (partOf g)
  let d ← loadDen g
  let o ← loadOut g
  let _ ← loadOut g
  storeOut g (quotV (addf (castOut o) (prodV (bufV v) (truncf .bf16 p bitsLt_bf16_f32))) (addf d (rowsV p)))

/-- The first step. -/
def stepFirst (c : Dev nD) : P F PUnit := do
  send c 0 0 0; send c 1 0 0
  let p0 ← scoreFirst 0; let p1 ← scoreFirst 1; let p2 ← scoreFirst 2; let p3 ← scoreFirst 3
  send c 0 1 0; send c 1 1 0
  accFirst 0 p0; accFirst 1 p1; accFirst 2 p2; accFirst 3 p3

/-- Ring step `j + 1`. -/
def stepMid (c : Dev nD) (j : Fin 6) : P F PUnit := do
  waitRecv 0 0 j.castSucc; send c 0 0 j.succ
  waitRecv 1 0 j.castSucc; send c 1 0 j.succ
  let p0 ← scoreLater j.succ.castSucc 0; let p1 ← scoreLater j.succ.castSucc 1
  let p2 ← scoreLater j.succ.castSucc 2; let p3 ← scoreLater j.succ.castSucc 3
  waitRecv 0 1 j.castSucc; send c 0 1 j.succ
  waitRecv 1 1 j.castSucc; send c 1 1 j.succ
  accMid j.succ.castSucc 0 p0; accMid j.succ.castSucc 1 p1
  accMid j.succ.castSucc 2 p2; accMid j.succ.castSucc 3 p3

/-- The last step. -/
def stepLast : P F PUnit := do
  waitRecv 0 0 6; waitRecv 1 0 6
  let p0 ← scoreLater 7 0; let p1 ← scoreLater 7 1; let p2 ← scoreLater 7 2; let p3 ← scoreLater 7 3
  waitRecv 0 1 6; waitRecv 1 1 6
  accLast 0 p0; accLast 1 p1; accLast 2 p2; accLast 3 p3

/-- Waits for one chain's sends. -/
def drain (d kv : Fin 2) : P F PUnit := do
  waitSend d kv 0; waitSend d kv 1; waitSend d kv 2; waitSend d kv 3; waitSend d kv 4; waitSend d kv 5; waitSend d kv 6

/-- The whole body. -/
def body : P F PUnit := do
  let c ← handshake
  stepFirst c
  stepMid c 0; stepMid c 1; stepMid c 2; stepMid c 3; stepMid c 4; stepMid c 5
  stepLast
  drain 0 0; drain 0 1; drain 1 0; drain 1 1

set_option maxRecDepth 65536 in
/-- The kernel's body is this program. -/
theorem body_eq : cc0_body (F := F) qM (Memref.isWhole_whole _) kM (Memref.isWhole_whole _) vM (Memref.isWhole_whole _) oM (Memref.isWhole_whole _)
    rM (Memref.isWhole_whole _) lM (Memref.isWhole_whole _) dM (Memref.isWhole_whole _)
    cc0_scratch3 cc0_scratch4 cc0_scratch5 cc0_scratch6 cc0_scratch7 cc0_scratch8 cc0_scratch9 cc0_scratch10 = body := by
  chain_rfl

end Cert.Attn

end
-- ==== Proof.Proto.lean ====
/- The protocol between the devices: the cells, who pays what into each, the levels they are waited on at, and the
   contents every transfer carries. -/
module

public import proofs.«01_k».proof.Proof.Prog
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Lib.ValueLayout

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra -/

/-- The rounds of this protocol. -/
abbrev UB : Type := URounds (GSem nD τ sig) (Fin 2)
/-- Beside the pipeline's. -/
abbrev UU : Type := UR sig nD τ × UB

local notation "𝕄" => MT nD τ sig Unit (Elt F) ℕ UU ℕ

/-- Where the pipeline's rounds sit. -/
abbrev EP : Emb (UR sig nD τ) (MT nD τ sig Unit (Elt F) ℕ UU ℕ) := embL
/-- Where this protocol's rounds sit. -/
abbrev ER : Emb UB (MT nD τ sig Unit (Elt F) ℕ UU ℕ) := embR

/-! ## Cells -/

/-- A transfer of the protocol: its ring, keys or values, and its index round the ring. -/
abbrev X : Type := Fin 2 × Fin 2 × Fin 7

/-- The semaphore of transfer `x`: `0` the sender's, `1` the receiver's. -/
def dsem (r : Fin 2) (x : X) : DmaSem sig :=
  (⟨4 + 14 * (2 * x.1.val + x.2.1.val) + 7 * r.val + x.2.2.val, by
    have := x.1.isLt; have := x.2.1.isLt; have := x.2.2.isLt; have := r.isLt; show _ < 60; omega⟩ : Fin 60)

/-- The program's send semaphores are the protocol's. -/
theorem semOf_send (d kv : Fin 2) (i : Fin 7) : semOf (sendA d kv) i = dsem 0 (d, kv, i) := by
  revert d kv i; decide
/-- The program's receive semaphores are the protocol's. -/
theorem semOf_recv (d kv : Fin 2) (i : Fin 7) : semOf (recvA d kv) i = dsem 1 (d, kv, i) := by
  revert d kv i; decide

/-- The launch's own semaphores, as one family. -/
def osem (k : Fin 2 × X) : SemLoc sig := .dma (dsem k.1 k.2)

/-- Which transfer a semaphore belongs to, if any. -/
def dec : SemLoc sig → Option (Fin 2 × X)
  | .reg _ => none
  | .dma n => if n.val < 4 then none else
      some (⟨(n.val - 4) / 7 % 2, Nat.mod_lt _ (by decide)⟩, ⟨(n.val - 4) / 28 % 2, Nat.mod_lt _ (by decide)⟩,
        ⟨(n.val - 4) / 14 % 2, Nat.mod_lt _ (by decide)⟩, ⟨(n.val - 4) % 7, Nat.mod_lt _ (by decide)⟩)

/-- Decoding the semaphore of a transfer gives the transfer. -/
theorem dec_osem (k : Fin 2 × X) : dec (osem k) = some k := by revert k; decide
/-- Distinct transfers have distinct semaphores. -/
theorem osem_inj : Function.Injective osem := fun a b h => by
  have := congrArg dec h; rw [dec_osem, dec_osem] at this; exact Option.some.inj this

/-- The barrier. -/
abbrev barS : Sem sig := barrier0
/-- Device `c`'s barrier. -/
abbrev barCell (c : Dev nD) : GSem nD τ sig := ((c : Thread nD τ), .reg barS)
/-- Device `c`'s send or receive cell of a transfer. -/
abbrev cell (r : Fin 2) (c : Dev nD) (x : X) : GSem nD τ sig := ((c : Thread nD τ), osem (r, x))
/-- Its send cell. -/
abbrev sendCell (c : Dev nD) (x : X) : GSem nD τ sig := cell 0 c x
/-- Its receive cell. -/
abbrev recvCell (c : Dev nD) (x : X) : GSem nD τ sig := cell 1 c x

/-- No transfer's semaphore is the barrier. -/
theorem osem_ne_bar (k : Fin 2 × X) : osem k ≠ .reg barS := fun h => by cases h

/-- One transfer's bytes, as the semaphores count them. -/
def N : ℕ := (slotM 0 0 0).view.dmaCredit
/-- A transfer moves something. -/
theorem N_pos : 0 < N := View.dmaCredit_pos _ (by decide)
/-- Every slot counts the same bytes. -/
theorem credit_slot : ∀ (d : Fin 2) (t : Fin 8) (kv : Fin 2), (slotM d t kv).view.dmaCredit = N
  | 0, _, _ => rfl
  | 1, _, _ => rfl
/-- A half of the device's own keys or values counts the same bytes. -/
theorem credit_half : ∀ (kv d : Fin 2), (halfM kv d).view.dmaCredit = N
  | 0, _ => rfl
  | 1, _ => rfl
/-- Every source counts the same bytes. -/
theorem credit_src (d kv : Fin 2) : ∀ i, (srcM d kv i).view.dmaCredit = N
  | 0 => credit_half kv d
  | ⟨n + 1, h⟩ => credit_slot d _ kv

/-! ## Round the ring -/

/-- The device whose keys and values slot `t` of ring `d`'s buffer holds on device `c`. -/
def srcD (c : Dev nD) (d : Fin 2) (t : Fin 8) : Dev nD :=
  if d = 0 then ⟨(c.val + 8 - t.val) % 8, Nat.mod_lt _ (by decide)⟩ else ⟨(c.val + t.val) % 8, Nat.mod_lt _ (by decide)⟩

/-- Sending one way and then the other comes back. -/
theorem toDev_toDev (c : Dev nD) (d : Fin 2) : toDev (toDev c d) (1 - d) = c := by revert c d; decide
/-- The same, the other way first. -/
theorem toDev_toDev' (c : Dev nD) (d : Fin 2) : toDev (toDev c (1 - d)) d = c := by revert c d; decide
/-- Slot zero stands for the device's own. -/
theorem srcD_zero (c : Dev nD) (d : Fin 2) : srcD c d 0 = c := by revert c d; decide
/-- The neighbour's next slot holds what this slot holds. -/
theorem srcD_succ (c : Dev nD) (d : Fin 2) (i : Fin 7) : srcD (toDev c d) d i.succ = srcD c d i.castSucc := by
  revert c d i; decide

/-! ## Contents -/

/-- Every device's own keys and values. -/
abbrev Own (F : FTy → Type) : Type := Dev nD → (kv : Fin 2) → (ownM kv).view.ty.Contents (Elt F)

variable (own : Own F)

/-- The half of device `c`'s own keys or values that ring `d` carries. -/
def halfV (c : Dev nD) (kv d : Fin 2) : S8x64x512.Idx → Elt F .bf16 := (halfM kv d).view.read (Elt F) (own c kv)

/-- What the receive buffer of ring `d` holds on device `c` once all has arrived, by index. -/
def gathV (c : Dev nD) (d : Fin 2) : S8x2x8x64x512.Idx → Elt F .bf16 := fun j =>
  halfV own (srcD c d (j 0)) (j 1) d (ix3 (j 2) (j 3) (j 4))
/-- The same as the buffer's contents. -/
def gath (c : Dev nD) : (d : Fin 2) → (bufM d).view.ty.Contents (Elt F)
  | 0 => gathV own c 0
  | 1 => gathV own c 1

/-- Reading the gathered buffer. -/
theorem read_gath (c : Dev nD) : ∀ d, (bufM d).view.read (Elt F) (gath own c d) = gathV own c d
  | 0 => View.read_whole cc0_scratch0 _
  | 1 => View.read_whole cc0_scratch1 _

/-- A slot of the gathered buffer holds the half its device of origin sent. -/
theorem read_slot (c : Dev nD) (d : Fin 2) (t : Fin 8) (kv : Fin 2) :
    (slotM d t kv).view.read (Elt F) (gath own c d) = halfV own (srcD c d t) kv d := by
  funext x
  obtain ⟨a, b, e, rfl⟩ : ∃ (a : Fin 8) (b : Fin 64) (e : Fin 512), x = ix3 a b e := ⟨x 0, x 1, x 2, eq_ix3 x⟩
  have h : (slotM d t kv).view.read (Elt F) (gath own c d) (ix3 a b e)
      = (bufM d).view.read (Elt F) (gath own c d)
        ((Rect.unit (s := S8x2x8x64x512) ![t.val, kv.val, 0, 0, 0] S1x1x8x64x512.size (inb_slot t kv)).emb
          (Shape.reshapeEquiv squeezes_S1x1x8x64x512_S8x64x512.numel_eq (ix3 a b e))) := rfl
  rw [h, read_gath, reshapeEquiv_ix3_11abc]
  have e' : (Rect.unit (s := S8x2x8x64x512) ![t.val, kv.val, 0, 0, 0] S1x1x8x64x512.size (inb_slot t kv)).emb
      (ix5 (⟨0, Nat.one_pos⟩ : Fin 1) (⟨0, Nat.one_pos⟩ : Fin 1) a b e) = ix5 t kv a b e := by
    funext i
    apply Fin.ext
    rw [Rect.emb_apply]
    match i with
    | ⟨0, _⟩ => show t.val + 1 * 0 = t.val; omega
    | ⟨1, _⟩ => show kv.val + 1 * 0 = kv.val; omega
    | ⟨2, _⟩ => show 0 + 1 * a.val = a.val; omega
    | ⟨3, _⟩ => show 0 + 1 * b.val = b.val; omega
    | ⟨4, _⟩ => show 0 + 1 * e.val = e.val; omega
  exact congrArg (gathV own c d) e'

/-- The contents of the buffer transfer `i` is sent from. -/
def srcB (c : Dev nD) (d kv : Fin 2) : (i : Fin 7) → (srcM d kv i).view.ty.Contents (Elt F)
  | 0 => own c kv
  | ⟨n + 1, h⟩ => gath own c d

/-- What transfer `i` reads. -/
theorem read_src (c : Dev nD) (d kv : Fin 2) : ∀ i : Fin 7,
    (srcM d kv i).view.read (Elt F) (srcB own c d kv i) = halfV own (srcD c d i.castSucc) kv d
  | 0 => by rw [show (0 : Fin 7).castSucc = (0 : Fin 8) from rfl, srcD_zero]; rfl
  | ⟨n + 1, h⟩ => read_slot own c d ⟨n + 1, by omega⟩ kv

/-- A view written with what it reads of `g` agrees with `g` on its elements. -/
theorem write_agree {κ : Kind} {sp : Space} {s : Shape} {e : EltTy} (v : View sig κ sp s e) (f g : v.ty.Contents (Elt F))
    (w : s.Idx → Elt F e) (h : v.read (Elt F) g = w) : ∀ i ∈ v.set, v.write (Elt F) f w Finset.univ i = g i := by
  intro i hi
  obtain ⟨x, -, rfl⟩ := Finset.mem_map.mp hi
  rw [View.write_emb_of_mem _ _ (Finset.mem_univ x), ← h, View.read_apply, cast_cast, cast_eq]

/-! ## Points-tos -/

/-- A slot at some share. -/
abbrev slotPts (c : Dev nD) (d : Fin 2) (t : Fin 8) (kv : Fin 2) (q : PosShare TreeShare) (f : (slotM d t kv).view.ty.Contents (Elt F)) : sProp 𝕄 :=
  (slotM d t kv).view.loc (c : Thread nD τ) ↦[(slotM d t kv).view.set]{q} f
/-- A transfer's source at some share. -/
abbrev srcPts (c : Dev nD) (d kv : Fin 2) (i : Fin 7) (q : PosShare TreeShare) (f : (srcM d kv i).view.ty.Contents (Elt F)) : sProp 𝕄 :=
  (srcM d kv i).view.loc (c : Thread nD τ) ↦[(srcM d kv i).view.set]{q} f

/-- Slot `i + 1` on the neighbour, once transfer `i` has landed. -/
theorem landed (c : Dev nD) (d kv : Fin 2) (i : Fin 7) (fd : (slotM d i.succ kv).view.ty.Contents (Elt F)) :
    (slotPts (toDev c d) d i.succ kv fullShare ((slotM d i.succ kv).view.write (Elt F) fd ((srcM d kv i).view.read (Elt F) (srcB own c d kv i)) Finset.univ) : sProp 𝕄)
      = slotPts (toDev c d) d i.succ kv fullShare (gath own (toDev c d) d) :=
  pointsTo_congr (write_agree (slotM d i.succ kv).view fd (gath own (toDev c d) d) _ (by
    rw [read_src, ← srcD_succ]; exact read_slot own (toDev c d) d i.succ kv))

/-! ## The schedule -/

/-- Paid to device `c`'s barrier along ring `d` by the neighbour `c` sends to along it: the neighbour's slots, and that
    its receive cells are ready. -/
def barPay (c : Dev nD) (d : Fin 2) : sProp 𝕄 :=
  iprop((bigSep Finset.univ fun y : Fin 2 × Fin 7 => iprop(∃ f, slotPts (toDev c d) d y.2.succ y.1 fullShare f))
    ∗ bigSep Finset.univ fun y : Fin 2 × Fin 7 => reached ER (recvCell (toDev c d) (d, y)) 0)
/-- Paid to a receive cell: the slot, at what was sent. -/
def recvPay (c : Dev nD) (x : X) : sProp 𝕄 := slotPts c x.1 x.2.2.succ x.2.1 fullShare (gath own c x.1)
/-- Paid to a send cell: the share of the source that was lent. -/
def sendPay (c : Dev nD) (x : X) : sProp 𝕄 := srcPts c x.1 x.2.1 x.2.2 fullShare.left (srcB own c x.1 x.2.1 x.2.2)

/-- What is paid into device `c`'s semaphore `s` for duty `d`. -/
def payOf (c : Dev nD) (s : SemLoc sig) (d : Fin 2) : sProp 𝕄 :=
  if s = .reg barS then barPay c d else
    match dec s with
    | none => iprop(emp)
    | some (0, x) => sendPay own c x
    | some (1, x) => recvPay own c x

/-- A slot can be a payload. -/
instance slotPts_storable (c : Dev nD) (d : Fin 2) (t : Fin 8) (kv : Fin 2) (q : PosShare TreeShare) (f) :
    BI.Storable (upEmb : UEmb _ 𝕄) (slotPts c d t kv q f) := by unfold slotPts; infer_instance
/-- So can a source. -/
instance srcPts_storable (c : Dev nD) (d kv : Fin 2) (i : Fin 7) (q : PosShare TreeShare) (f) :
    BI.Storable (upEmb : UEmb _ 𝕄) (srcPts c d kv i q f) := by unfold srcPts; infer_instance
/-- What the barrier hands over can be kept. -/
instance barPay_storable (c : Dev nD) (d : Fin 2) : BI.Storable (upEmb : UEmb _ 𝕄) (barPay (F := F) c d) := by
  unfold barPay; infer_instance
/-- So can what a landing hands over. -/
instance recvPay_storable (c : Dev nD) (x : X) : BI.Storable (upEmb : UEmb _ 𝕄) (recvPay own c x) := slotPts_storable ..
/-- And what a send gives back. -/
instance sendPay_storable (c : Dev nD) (x : X) : BI.Storable (upEmb : UEmb _ 𝕄) (sendPay own c x) := srcPts_storable ..
/-- And so every payload of the table. -/
instance payOf_storable (c : Dev nD) (s : SemLoc sig) (d : Fin 2) : BI.Storable (upEmb : UEmb _ 𝕄) (payOf own c s d) := by
  unfold payOf
  (repeat' split) <;> infer_instance

/-- Duties: both rings' at a barrier, one at a transfer's cell. -/
def dutyOf (s : SemLoc sig) : Finset (Fin 2) :=
  if s = .reg barS then Finset.univ else if (dec s).isSome then {0} else ∅

/-- The schedule. -/
def rd : Rounds.Schedule (GSem nD τ sig) (Fin 2) 𝕄 where
  duties g r := if r = 0 ∧ g.1.2 = .tc then dutyOf g.2 else ∅
  unitless _ := False
  amount g _ _ := if g.2 = .reg barS then 1 else N
  payload g _ d := payOf own g.1.1 g.2 d
  amount_pos g _ _ _ := by
    by_cases h : g.2 = .reg barS
    · rw [if_pos h]; exact Nat.one_pos
    · rw [if_neg h]; exact N_pos

/-- Its payloads can be kept. -/
instance rd_payload_storable (g : GSem nD τ sig) (r : ℕ) (d : Fin 2) :
    BI.Storable (upEmb : UEmb _ 𝕄) ((rd own).payload g r d) := payOf_storable own g.1.1 g.2 d

section Sched
variable (c : Dev nD)

/-- The barrier's duties. -/
theorem duties_bar : (rd own).duties (barCell c) 0 = Finset.univ := by
  dsimp only [rd]; rw [if_pos ⟨rfl, rfl⟩]; unfold dutyOf; exact if_pos rfl
/-- A transfer cell's duty. -/
theorem duties_cell (r : Fin 2) (x : X) : (rd own).duties (cell r c x) 0 = {0} := by
  dsimp only [rd]; rw [if_pos ⟨rfl, rfl⟩]; unfold dutyOf; rw [if_neg (osem_ne_bar _), dec_osem]; exact if_pos rfl
/-- One round only. -/
theorem duties_later (g : GSem nD τ sig) : ∀ r, 1 ≤ r → (rd own).duties g r = ∅ :=
  fun r hr => by dsimp only [rd]; rw [if_neg fun h => by omega]
/-- A barrier signal is one unit. -/
theorem amount_bar (d : Fin 2) : (rd own).amount (barCell c) 0 d = 1 := by dsimp only [rd]; exact if_pos rfl
/-- A transfer counts its bytes. -/
theorem amount_cell (r : Fin 2) (x : X) (d : Fin 2) : (rd own).amount (cell r c x) 0 d = N := by
  dsimp only [rd]; exact if_neg (osem_ne_bar _)
/-- The barrier expects two units. -/
theorem expect_bar : (rd own).expect (barCell c) 0 = 2 := by
  unfold Schedule.expect Schedule.amountOf
  rw [duties_bar, Finset.sum_congr rfl fun d _ => amount_bar own c d, Finset.sum_const, Finset.card_univ, Fintype.card_fin, smul_eq_mul]
/-- A transfer cell expects the transfer's bytes. -/
theorem expect_cell (r : Fin 2) (x : X) : (rd own).expect (cell r c x) 0 = N := by
  unfold Schedule.expect Schedule.amountOf; rw [duties_cell, Finset.sum_singleton, amount_cell]
/-- The barrier's payloads. -/
theorem payload_bar (d : Fin 2) : (rd own).payload (barCell c) 0 d = barPay c d := by
  dsimp only [rd]; unfold payOf; exact if_pos rfl
/-- A send cell's payload. -/
theorem payload_send (x : X) (d : Fin 2) : (rd own).payload (sendCell c x) 0 d = sendPay own c x := by
  dsimp only [rd]; unfold payOf; rw [if_neg (osem_ne_bar _), dec_osem]
/-- A receive cell's payload. -/
theorem payload_recv (x : X) (d : Fin 2) : (rd own).payload (recvCell c x) 0 d = recvPay own c x := by
  dsimp only [rd]; unfold payOf; rw [if_neg (osem_ne_bar _), dec_osem]
/-- All that the barrier's round brings. -/
theorem rest_bar : bigSep ((rd own).duties (barCell c) 0 \ ∅) (fun u => (rd own).payload (barCell c) 0 u) = iprop(barPay c 0 ∗ barPay c 1) := by
  rw [Finset.sdiff_empty, duties_bar, BI.bigSep_fin_two, payload_bar, payload_bar]; rfl
/-- All that a send cell's round brings. -/
theorem rest_send (x : X) : bigSep ((rd own).duties (sendCell c x) 0 \ ∅) (fun u => (rd own).payload (sendCell c x) 0 u) = sendPay own c x := by
  rw [Finset.sdiff_empty, duties_cell, bigSep_singleton, payload_send]
/-- All that a receive cell's round brings. -/
theorem rest_recv (x : X) : bigSep ((rd own).duties (recvCell c x) 0 \ ∅) (fun u => (rd own).payload (recvCell c x) 0 u) = recvPay own c x := by
  rw [Finset.sdiff_empty, duties_cell, bigSep_singleton, payload_recv]

end Sched

/-! ## What each device owes; the levels -/

/-- Device `c` owes the receive credit of the transfers in `S`. -/
def O (S : Finset X) (c : Dev nD) : CellTallies nD τ sig Unit := ∑ x ∈ S, tallyAt (recvCell (toDev c x.1) x) () N
/-- At launch: all of them and the two barrier units. -/
def O₀ (c : Dev nD) : CellTallies nD τ sig Unit :=
  (O Finset.univ c + tallyAt (barCell (toDev c 0)) () 1) + tallyAt (barCell (toDev c 1)) () 1

/-- The one level name of a device's cells. -/
def L (g : GSem nD τ sig) : Finset Unit := if g.1.2 = .tc then {()} else ∅
/-- A barrier at one, receive cells above it by their index, the rest at zero. -/
def lvS (s : SemLoc sig) : ℕ := if s = .reg barS then 1 else
  match dec s with
  | some (1, x) => 2 + x.2.2.val
  | _ => 0
/-- The levels. -/
def lv (g : GSem nD τ sig) (_ : Unit) : ℕ := lvS g.2

/-- Other threads have no levels. -/
theorem L_of_ne (g : GSem nD τ sig) (h : g.1.2 ≠ .tc) : L g = ∅ := if_neg h
/-- Each device's cells have the one. -/
theorem L_tc (c : Dev nD) (sm : SemLoc sig) : L ((c : Thread nD τ), sm) = {()} := if_pos rfl
/-- The barrier's level. -/
theorem lv_bar (c : Dev nD) : lv (barCell c) () = 1 := by unfold lv lvS; exact if_pos rfl
/-- A receive cell's level, later for later transfers. -/
theorem lv_recv (c : Dev nD) (x : X) : lv (recvCell c x) () = 2 + x.2.2.val := by
  unfold lv lvS; rw [if_neg (osem_ne_bar _), dec_osem]; rfl

/-- What is owed is a receive credit of one of the transfers. -/
theorem O_pos (S : Finset X) (c : Dev nD) (g : GSem nD τ sig) (u : Unit) (h : 0 < O S c g u) : ∃ x ∈ S, g = recvCell (toDev c x.1) x := by
  unfold O at h
  induction S using Finset.induction_on with
  | empty => exact absurd h (Nat.lt_irrefl 0)
  | insert x S hx ih =>
    rw [Finset.sum_insert hx, Pi.add_apply, Finsupp.add_apply] at h
    rcases Nat.add_pos_iff_pos_or_pos.mp h with h | h
    · rw [tallyAt_apply] at h
      split at h
      · next hg => exact ⟨x, Finset.mem_insert_self _ _, hg.1⟩
      · exact absurd h (Nat.lt_irrefl 0)
    · obtain ⟨y, hy, e⟩ := ih h
      exact ⟨y, Finset.mem_insert_of_mem hy, e⟩

/-- Taking one transfer out of what is owed. -/
theorem O_erase (S : Finset X) (c : Dev nD) (x : X) (hx : x ∈ S) : O S c = O (S.erase x) c + tallyAt (recvCell (toDev c x.1) x) () N := by
  unfold O; rw [Finset.sum_erase_add _ _ hx]

/-- A wait at a level below all that is still owed is allowed. -/
theorem mayWait_of (c : Dev nD) (sm : SemLoc sig) (S : Finset X) (n : ℕ) (hn : lv ((c : Thread nD τ), sm) () ≤ n) (hS : ∀ x ∈ S, n < 2 + x.2.2.val) :
    (levAts L lv : sProp 𝕄) ⊢ MayWait (c : Thread nD τ) sm () (O S c) :=
  MayOwe.of_cut (L := L) (lev := lv) n (fun p hp => by rw [Finset.mem_singleton.mp hp, L_tc]; exact Finset.mem_singleton_self _)
    (fun g u hg => by
      obtain ⟨x, -, rfl⟩ := O_pos S c g u hg
      rw [L_tc]; exact Finset.mem_singleton_self _)
    (fun p hp => by rw [Finset.mem_singleton.mp hp]; exact hn)
    (fun g u hg => by
      obtain ⟨x, hx, rfl⟩ := O_pos S c g u hg
      cases u; rw [lv_recv]; exact hS x hx)

/-- The barrier may be waited on owing receive credits. -/
theorem mayWait_bar (c : Dev nD) (S : Finset X) : (levAts L lv : sProp 𝕄) ⊢ MayWait (c : Thread nD τ) (.reg barS) () (O S c) :=
  mayWait_of c _ S 1 (lv_bar c).le fun x _ => by omega
/-- A receive cell may be waited on owing later transfers. -/
theorem mayWait_recv (c : Dev nD) (x : X) (S : Finset X) (hS : ∀ y ∈ S, x.2.2.val < y.2.2.val) :
    (levAts L lv : sProp 𝕄) ⊢ MayWait (c : Thread nD τ) (osem (1, x)) () (O S c) :=
  mayWait_of c _ S (2 + x.2.2.val) (lv_recv c x).le fun y hy => by have := hS y hy; omega

/-- No loop variants. -/
abbrev 𝒱₀ : Variants := Variants.none

end Cert.Attn

end
-- ==== Proof.Step.lean ====
/- The transfers' steps: a send, a wait for what is received, a wait for what was sent, and the state they move. -/
module

public import proofs.«01_k».proof.Proof.Proto

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (own : Own F)

/-- The weakest precondition of a piece of the body on device `c`. -/
abbrev wpc (c : Dev nD) {α : Type} (p : P F α) (Q : α → sProp 𝕄) : sProp 𝕄 :=
  wp frame (wpE (defs₀ (F := F)) 𝒱₀ (c : Thread nD τ) none) Set.univ p Q

/-- Taking an element out of a separating conjunction over a set. -/
theorem take {I : Type} [DecidableEq I] {s : Finset I} {i : I} (h : i ∈ s) (Φ : I → sProp 𝕄) : bigSep s Φ = iprop(Φ i ∗ bigSep (s.erase i) Φ) :=
  BI.bigSep_erase h
/-- The conjunction over what is not in a set, an element having left the set. -/
theorem put {I : Type} [Fintype I] [DecidableEq I] {s : Finset I} {i : I} (h : i ∈ s) (Φ : I → sProp 𝕄) :
    bigSep (s.erase i)ᶜ Φ = iprop(Φ i ∗ bigSep sᶜ Φ) := by
  rw [Finset.compl_erase]; exact BI.bigSep_insert (by rw [Finset.mem_compl]; exact fun h' => h' h)

/-! ## What a device holds for a transfer -/

/-- All the transfer cells' invariants, at the names `K`. -/
def invX (K : GSem nD τ sig → ℕ) : sProp 𝕄 :=
  bigSep Finset.univ fun p : Dev nD × (Fin 2 × X) => cellInv ER (rd own) (K (cell p.2.1 p.1 p.2.2)) (cell p.2.1 p.1 p.2.2)
/-- The transfers' invariants can be used again. -/
instance invX_persistent (K : GSem nD τ sig → ℕ) : BI.Persistent (invX own K) := by unfold invX; infer_instance
/-- One of them. -/
theorem invX_at (K : GSem nD τ sig → ℕ) (r : Fin 2) (c : Dev nD) (x : X) :
    invX own K ⊢ cellInv ER (rd own) (K (cell r c x)) (cell r c x) :=
  bigSep_elim (Φ := fun p : Dev nD × (Fin 2 × X) => (cellInv ER (rd own) (K (cell p.2.1 p.1 p.2.2)) (cell p.2.1 p.1 p.2.2) : sProp 𝕄))
    (Finset.mem_univ (c, (r, x)))

/-- To send transfer `x`: its duties here and at the neighbour. -/
def SendG (c : Dev nD) (x : X) : sProp 𝕄 :=
  iprop(atPos ER (sendCell c x) 0 ∅ 0 ∗ dutyTok ER (sendCell c x) 0 0 ∗ reached ER (sendCell c x) 0
    ∗ dutyTok ER (recvCell (toDev c x.1) x) 0 0)
/-- The neighbour's slot for transfer `x`, and that its cell is ready. -/
def SendL (c : Dev nD) (x : X) : sProp 𝕄 :=
  iprop((∃ f, slotPts (toDev c x.1) x.1 x.2.2.succ x.2.1 fullShare f) ∗ reached ER (recvCell (toDev c x.1) x) 0)
/-- What a device needs to start a transfer. -/
def SendTk (c : Dev nD) (x : X) : sProp 𝕄 := iprop(SendG c x ∗ SendL c x)
/-- What it needs to wait for one. -/
def RecvTk (c : Dev nD) (x : X) : sProp 𝕄 := iprop(atPos ER (recvCell c x) 0 ∅ 0 ∗ cred (tallyAt (recvCell c x) () N))
/-- What it needs to wait for one's end. -/
def PendTk (c : Dev nD) (x : X) : sProp 𝕄 := iprop(atPos ER (sendCell c x) 0 ∅ 0 ∗ cred (tallyAt (sendCell c x) () N))
/-- The share of a received slot its device keeps: half, but the last slot whole, which is sent no further. -/
def keep (i : Fin 7) : PosShare TreeShare := if i = 6 then fullShare else fullShare.right
/-- What it holds after a transfer came in. -/
def RecvDone (c : Dev nD) (x : X) : sProp 𝕄 :=
  iprop(semVal (recvCell c x) 0 ∗ slotPts c x.1 x.2.2.succ x.2.1 (keep x.2.2) (gath own c x.1))
/-- What it holds after one went out. -/
def SendDone (c : Dev nD) (x : X) : sProp 𝕄 := iprop(semVal (sendCell c x) 0 ∗ sendPay own c x)

/-- Where the rings are: `S` still to send, `R` still to receive. -/
def St (c : Dev nD) (S R : Finset X) : sProp 𝕄 :=
  iprop((∃ W, owes (c : Thread nD τ) (O S c) W) ∗ bigSep S (SendTk c) ∗ bigSep Sᶜ (PendTk c)
    ∗ bigSep R (RecvTk c) ∗ bigSep Rᶜ (RecvDone own c))

/-- Closing a cell after its one round. -/
theorem close (κ : ℕ) (g : GSem nD τ sig) :
    iprop(cellInv ER (rd own) κ g ∗ atPos ER g (0 + 1) ∅ 0) ⊢ (|={Set.univ}=> semVal g 0 : sProp 𝕄) :=
  Rounds.cell_close ER (rd own) (Set.mem_univ κ) id (duties_later own g)

variable (K : GSem nD τ sig → ℕ)

/-- Sending transfer `x`: the lent share of its source leaves, and it is pending. -/
theorem send_spec (c : Dev nD) (d kv : Fin 2) (i : Fin 7) (S R : Finset X) (hx : (d, kv, i) ∈ S) (Kt : PUnit → sProp 𝕄) :
    iprop(invX own K ∗ St own c S R ∗ srcPts c d kv i fullShare.left (srcB own c d kv i) ∗ (St own c (S.erase (d, kv, i)) R -∗ Kt ⟨⟩))
      ⊢ wpc c (send c d kv i) Kt := by
  unfold send St
  rw [take hx, put hx]
  unfold SendTk SendG SendL
  simp only [semOf_send, semOf_recv]
  simp only [Prog.lift]
  iintro ⟨#HI, ⟨⟨%W, HO⟩, ⟨⟨⟨HatS, HtS, #HrS, HtN⟩, ⟨%fd, Hd⟩, #HrN⟩, HS⟩, HP, HR, HRd⟩, Hsrc, Hk⟩
  ihave #HIs := (invX_at own K 0 c (d, kv, i)) $$ HI
  ihave #HIr := (invX_at own K 1 (toDev c d) (d, kv, i)) $$ HI
  iapply (Rounds.wp_send_pointsTo 𝒱₀ ER (rd own) (c : Thread nD τ) none (c' := (toDev c d : Thread nD τ)) (src := srcM d kv i) (dst := slotM d i.succ kv)
      (sS := osem (0, d, kv, i)) (sem := osem (1, d, kv, i)) (q := fullShare.left) (fs := srcB own c d kv i)
      (κ₁ := K (sendCell c (d, kv, i))) (κ₂ := K (recvCell (toDev c d) (d, kv, i)))
      (r₁ := 0) (r₂ := 0) (d₁ := 0) (d₂ := 0) (fd := fd)
      (by rw [duties_cell]; exact Finset.mem_singleton_self _) (by rw [duties_cell]; exact Finset.mem_singleton_self _)
      () () N (credit_slot d i.succ kv) (amount_cell own c 0 _ 0) (amount_cell own (toDev c d) 1 _ 0) (O (S.erase (d, kv, i)) c) (O_erase S c _ hx) (W := W)
      (by rw [payload_send]; exact BI.Entails.refl _)
      (by rw [payload_recv]; exact Entails.of_eq (landed own c d kv i fd))) $$ [Hsrc Hd HO HtS HtN]
  · isplitr; · iexact HIs
    isplitr; · iexact HIr
    isplitl [Hsrc]; · iexact Hsrc
    isplitl [Hd]; · iexact Hd
    isplitl [HO]; · iexact HO
    isplitl [HtS]; · iexact HtS
    isplitr; · iexact HrS
    isplitl [HtN]; · iexact HtN
    iexact HrN
  iintro ⟨HcS, HO⟩
  rw [wp_ret]
  imodintro
  iapply Hk
  isplitl [HO]; · iexists W; iexact HO
  isplitl [HS]; · iexact HS
  isplitl [HatS HcS HP]
  · isplitl [HatS HcS]
    · unfold PendTk; isplitl [HatS]; · iexact HatS
      iexact HcS
    iexact HP
  isplitl [HR] <;> iassumption

/-- Splitting a received slot between what is sent on and what is kept. -/
def lend (c : Dev nD) (x : X) : sProp 𝕄 :=
  if x.2.2 = 6 then iprop(emp) else slotPts c x.1 x.2.2.succ x.2.1 fullShare.left (gath own c x.1)

/-- A slot's points-to, in two shares. -/
theorem slot_share (c : Dev nD) (d : Fin 2) (t : Fin 8) (kv : Fin 2) (f : (slotM d t kv).view.ty.Contents (Elt F)) :
    (slotPts c d t kv fullShare f : sProp 𝕄) ⊢ iprop(slotPts c d t kv fullShare.left f ∗ slotPts c d t kv fullShare.right f) :=
  (pointsTo_share (PosShare.mem_left_op_right fullShare)).1

/-- What a wait receives is what is kept and what is lent on. -/
theorem recvPay_split (c : Dev nD) (x : X) :
    recvPay own c x ⊢ iprop(slotPts c x.1 x.2.2.succ x.2.1 (keep x.2.2) (gath own c x.1) ∗ lend own c x) := by
  unfold recvPay lend keep
  by_cases h : x.2.2 = 6
  · rw [if_pos h, if_pos h]
    iintro H; isplitl [H]; · iexact H
    iempintro
  · rw [if_neg h, if_neg h]
    iintro H
    ihave H' := (slot_share c x.1 x.2.2.succ x.2.1 (gath own c x.1)) $$ H
    icases H' with ⟨Hl, Hr⟩
    isplitl [Hr] <;> iassumption

/-- Waiting for transfer `x` to land, all that is owed being later. -/
theorem recv_spec (c : Dev nD) (d kv : Fin 2) (i : Fin 7) (S R : Finset X) (hx : (d, kv, i) ∈ R) (hS : ∀ y ∈ S, i.val < y.2.2.val) (Kt : PUnit → sProp 𝕄) :
    iprop(invX own K ∗ levAts L lv ∗ St own c S R ∗ ((St own c S (R.erase (d, kv, i)) ∗ lend own c (d, kv, i)) -∗ Kt ⟨⟩))
      ⊢ wpc c (waitRecv d kv i) Kt := by
  unfold waitRecv St
  rw [take hx, put hx]
  unfold RecvTk
  simp only [semOf_recv]
  simp only [Prog.lift]
  iintro ⟨#HI, #Hlev, ⟨⟨%W, HO⟩, HS, HP, ⟨⟨Hat, Hc⟩, HR⟩, HRd⟩, Hk⟩
  ihave #HIr := (invX_at own K 1 c (d, kv, i)) $$ HI
  iapply (Rounds.wp_wait_rest_token 𝒱₀ ER (rd own) (c : Thread nD τ) none (κ := K (recvCell c (d, kv, i))) (sm := osem (1, d, kv, i)) (k' := N)
      (fun K' => (wpE_waitDma2_eq 𝒱₀ (c : Thread nD τ) none Set.univ K').trans (by rw [credit_slot]; rfl)) (Set.mem_univ _) () (O := O S c) (W := W) (R := 0) (m := 0) (T := ∅)
      ((Nat.zero_add _).trans (expect_cell own c 1 (d, kv, i)).symm)) $$ [Hc HO Hat]
  · isplitr; · iexact HIr
    isplitl [Hc]; · iexact Hc
    isplitl [HO]; · iexact HO
    isplitr; · iapply (mayWait_recv c (d, kv, i) S hS); iexact Hlev
    iexact Hat
  iintro ⟨HO, Hat, -, Hpay⟩
  ihave Hp := (Entails.of_eq (rest_recv own c (d, kv, i))) $$ Hpay
  ihave Hp' := (recvPay_split own c (d, kv, i)) $$ Hp
  icases Hp' with ⟨Hkeep, Hlend⟩
  rw [wp_ret]
  imod (close own (K (recvCell c (d, kv, i))) (recvCell c (d, kv, i))) $$ [Hat] with Hv
  · isplitr; · iexact HIr
    iexact Hat
  imodintro
  iapply Hk
  isplitr [Hlend]
  · isplitl [HO]; · iexists _; iexact HO
    isplitl [HS]; · iexact HS
    isplitl [HP]; · iexact HP
    isplitl [HR]; · iexact HR
    isplitl [Hv Hkeep]
    · unfold RecvDone; isplitl [Hv] <;> iassumption
    iexact HRd
  iexact Hlend

/-- Waiting for transfer `x` to have left, nothing being owed. -/
theorem sent_spec (c : Dev nD) (d kv : Fin 2) (i : Fin 7) (E : Finset X) (hx : (d, kv, i) ∈ E) (Kt : PUnit → sProp 𝕄) :
    iprop(invX own K ∗ ((∃ W, owes (c : Thread nD τ) (0 : CellTallies nD τ sig Unit) W) ∗ bigSep E (PendTk c) ∗ bigSep Eᶜ (SendDone own c))
        ∗ (((∃ W, owes (c : Thread nD τ) (0 : CellTallies nD τ sig Unit) W) ∗ bigSep (E.erase (d, kv, i)) (PendTk c)
            ∗ bigSep (E.erase (d, kv, i))ᶜ (SendDone own c)) -∗ Kt ⟨⟩))
      ⊢ wpc c (waitSend d kv i) Kt := by
  unfold waitSend
  rw [take hx, put hx]
  simp only [semOf_send]
  simp only [Prog.lift]
  unfold PendTk
  iintro ⟨#HI, ⟨⟨%W, HO⟩, ⟨⟨Hat, Hc⟩, HP⟩, HD⟩, Hk⟩
  ihave #HIs := (invX_at own K 0 c (d, kv, i)) $$ HI
  iapply (Rounds.wp_wait_rest_token 𝒱₀ ER (rd own) (c : Thread nD τ) none (κ := K (sendCell c (d, kv, i))) (sm := osem (0, d, kv, i)) (k' := N)
      (fun K' => (wpE_waitDma2_eq 𝒱₀ (c : Thread nD τ) none Set.univ K').trans (by rw [credit_src]; rfl)) (Set.mem_univ _) () (O := 0) (W := W) (R := 0) (m := 0) (T := ∅)
      ((Nat.zero_add _).trans (expect_cell own c 0 (d, kv, i)).symm)) $$ [Hc HO Hat]
  · isplitr; · iexact HIs
    isplitl [Hc]; · iexact Hc
    isplitl [HO]; · iexact HO
    isplitr; · rw [MayWait_zero]; iempintro
    iexact Hat
  iintro ⟨HO, Hat, -, Hpay⟩
  ihave Hp := (Entails.of_eq (rest_send own c (d, kv, i))) $$ Hpay
  rw [wp_ret]
  imod (close own (K (sendCell c (d, kv, i))) (sendCell c (d, kv, i))) $$ [Hat] with Hv
  · isplitr; · iexact HIs
    iexact Hat
  imodintro
  iapply Hk
  isplitl [HO]; · iexists _; iexact HO
  isplitl [HP]; · iexact HP
  isplitl [Hv Hp]
  · unfold SendDone; isplitl [Hv] <;> iassumption
  iexact HD

/-- What a wait lends is the next transfer's source. -/
theorem lend_src (c : Dev nD) (d kv : Fin 2) (j : Fin 6) :
    lend own c (d, kv, j.castSucc) = srcPts c d kv j.succ fullShare.left (srcB own c d kv j.succ) := by
  unfold lend
  rw [if_neg (fun h : j.castSucc = 6 => by have := congrArg Fin.val h; have := j.isLt; simp at *; omega)]
  rfl

end Cert.Attn

end
-- ==== Proof.Acc.lean ====
/- The body's computation: the loads, the two accumulators, and what they hold after each step. -/
module

public import proofs.«01_k».proof.Proof.Step

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-- Group `g`'s rows of the queries. -/
abbrev rowsR (g : Fin 4) : Rect S16x512x64 := Rect.unit (s := S16x512x64) ![4 * g.val, 0, 0] S4x512x64.size (inb_rows g)
/-- Group `g`'s heads of keys, values or the result. -/
abbrev headsR (g : Fin 4) : Rect S16x64x512 := Rect.unit (s := S16x64x512) ![4 * g.val, 0, 0] S4x64x512.size (inb_heads g)
/-- Group `g`'s denominators. -/
abbrev denR (g : Fin 4) : Rect S16x512 := Rect.unit (s := S16x512) ![4 * g.val, 0] S4x512.size (inb_den g)
/-- Slot `t` of a ring buffer, for the keys or the values. -/
abbrev slotR (t : Fin 8) (kv : Fin 2) : Rect S8x2x8x64x512 :=
  Rect.unit (s := S8x2x8x64x512) ![t.val, kv.val, 0, 0, 0] S1x1x8x64x512.size (inb_slot t kv)
/-- Half of a slot: the four heads of one group. -/
abbrev partR (t : Fin 8) (kv h : Fin 2) : Rect S8x2x8x64x512 :=
  Rect.unit (s := S8x2x8x64x512) ![t.val, kv.val, 4 * h.val, 0, 0] S1x1x4x64x512.size (inb_part t kv h)

variable (qf : Dev nD → qM.view.ty.Contents (Elt F)) (own : Own F)

/-! ## What is computed -/

/-- Group `g` of the device's queries. -/
def qP (c : Dev nD) (g : Fin 4) : Vec F S4x512x64 .bf16 := qM.view.readAt (Elt F) (rowsR g).toLoadRect (qf c)
/-- Group `g` of the device's own keys or values. -/
def ownP (c : Dev nD) (kv : Fin 2) (g : Fin 4) : Vec F S4x64x512 .bf16 := (ownM kv).view.readAt (Elt F) (headsR g).toLoadRect (own c kv)
/-- Half a slot of a gathered buffer. -/
def bufP (c : Dev nD) (t : Fin 8) (kv d h : Fin 2) : Vec F S1x1x4x64x512 .bf16 :=
  (bufM d).view.readAt (Elt F) (partR t kv h).toLoadRect (gath own c d)
/-- Group `g`'s keys or values at step `t`. -/
def blk (c : Dev nD) (kv : Fin 2) (g : Fin 4) : Fin 8 → FVec F S4x64x512 .bf16
  | 0 => ownV (ownP own c kv g)
  | ⟨n + 1, h⟩ => bufV (bufP own c ⟨n + 1, h⟩ kv (ringOf g) (partOf g))
/-- The weights of step `t`. -/
def score (c : Dev nD) (g : Fin 4) (t : Fin 8) : FVec F S4x512x512 .f32 := scoreV (blk own c 0 g t) (qP qf c g)
/-- The product of step `t`. -/
def prod (c : Dev nD) (g : Fin 4) (t : Fin 8) : FVec F S4x64x512 .f32 :=
  prodV (blk own c 1 g t) (truncf .bf16 (score qf own c g t) bitsLt_bf16_f32)
/-- Denominators, recast to the shape they have. -/
def denV (x : FVec F S4x512 .f32) : FVec F S4x512 .f32 := shapeCast S4x512 x shapeCasts_S4x512_S4x512
/-- The denominators' accumulator after step `n`. -/
def den (c : Dev nD) (g : Fin 4) : ℕ → FVec F S4x512 .f32
  | 0 => denV (rowsV (score qf own c g 0))
  | n + 1 => denV (addf (den c g n) (rowsV (score qf own c g (Fin.ofNat 8 (n + 1)))))
/-- The numerators' accumulator after step `n`. -/
def num (c : Dev nD) (g : Fin 4) : ℕ → FVec F S4x64x512 .f32
  | 0 => prod qf own c g 0
  | n + 1 => addf (castOut (num c g n)) (prod qf own c g (Fin.ofNat 8 (n + 1)))
/-- What the last step leaves. -/
def res (c : Dev nD) (g : Fin 4) : FVec F S4x64x512 .f32 :=
  quotV (addf (castOut (num qf own c g 6)) (prod qf own c g 7)) (addf (den qf own c g 6) (rowsV (score qf own c g 7)))
/-- The result as a whole. -/
def outV (c : Dev nD) : S16x64x512.Idx → Elt F .f32 := fun i =>
  res qf own c ⟨(i 0).val / 4, by have : (i 0).val < 16 := (i 0).isLt; omega⟩ (ix3 (⟨(i 0).val % 4, by omega⟩ : Fin 4) (i 1 : Fin 64) (i 2 : Fin 512))

/-! ## Loads -/

/-- All of the queries' buffer. -/
abbrev qPts (c : Dev nD) (f : qM.view.ty.Contents (Elt F)) : sProp 𝕄 := qM.view.loc (c : Thread nD τ) ↦[Finset.univ]{fullShare} f
/-- All of a device's own keys or values, at some share. -/
abbrev ownPts (c : Dev nD) (kv : Fin 2) (q : PosShare TreeShare) (f : (ownM kv).view.ty.Contents (Elt F)) : sProp 𝕄 :=
  (ownM kv).view.loc (c : Thread nD τ) ↦[Finset.univ]{q} f
/-- All of the denominators' buffer. -/
abbrev denPts (c : Dev nD) (f : dM.view.ty.Contents (Elt F)) : sProp 𝕄 := dM.view.loc (c : Thread nD τ) ↦[Finset.univ]{fullShare} f
/-- All of the result's buffer. -/
abbrev outPts (c : Dev nD) (f : oM.view.ty.Contents (Elt F)) : sProp 𝕄 := oM.view.loc (c : Thread nD τ) ↦[Finset.univ]{fullShare} f

/-- Loading a group of queries. -/
theorem loadQ_spec (c : Dev nD) (g : Fin 4) (Kt : Vec F S4x512x64 .bf16 → sProp 𝕄) :
    iprop(qPts c (qf c) ∗ (qPts c (qf c) -∗ Kt (qP qf c g))) ⊢ wpc c (loadQ g) Kt := by
  unfold loadQ
  simp only [Prog.lift]
  iintro ⟨Hq, Hk⟩
  iapply (wp_load 𝒱₀ (c : Thread nD τ) none Set.univ (m := qM) (S := Finset.univ) (Finset.subset_univ _)) $$ Hq
  iintro Hq
  rw [wp_ret, show qM.view.readAt (Elt F) (rowsR g).toLoadRect (qf c) = qP qf c g from rfl]
  imodintro
  iapply Hk
  iexact Hq

/-- Loading a group of the device's own keys or values. -/
theorem loadOwn_spec (c : Dev nD) (kv : Fin 2) (g : Fin 4) (q : PosShare TreeShare) (Kt : Vec F S4x64x512 .bf16 → sProp 𝕄) :
    iprop(ownPts c kv q (own c kv) ∗ (ownPts c kv q (own c kv) -∗ Kt (ownP own c kv g))) ⊢ wpc c (loadOwn kv g) Kt := by
  unfold loadOwn
  simp only [Prog.lift]
  iintro ⟨Hq, Hk⟩
  iapply (wp_load 𝒱₀ (c : Thread nD τ) none Set.univ (m := ownM kv) (S := Finset.univ) (Finset.subset_univ _)) $$ Hq
  iintro Hq
  rw [wp_ret, show (ownM kv).view.readAt (Elt F) (headsR g).toLoadRect (own c kv) = ownP own c kv g from rfl]
  imodintro
  iapply Hk
  iexact Hq

/-- Half a slot lies in the slot. -/
theorem part_sub (t : Fin 8) (kv h : Fin 2) : (partR t kv h).set ⊆ (slotR t kv).set := by
  intro i hi
  rw [Rect.mem_set_unit] at hi ⊢
  intro a
  have := hi a
  have hh := h.isLt
  match a with
  | ⟨0, _⟩ => exact this
  | ⟨1, _⟩ => exact this
  | ⟨2, _⟩ => exact ⟨Nat.zero_le _, by show (i 2).val < 0 + 8; have : (i 2).val < 8 := (i 2).isLt; omega⟩
  | ⟨3, _⟩ => exact this
  | ⟨4, _⟩ => exact this

/-- A slot's elements. -/
theorem slot_set (d : Fin 2) (t : Fin 8) (kv : Fin 2) : (slotM d t kv).view.set = (bufM d).view.setOn (slotR t kv).set := by
  show (((bufM d).view.slice (slotR t kv)).reshape S8x64x512 squeezes_S1x1x8x64x512_S8x64x512.numel_eq).set = _
  rw [View.set_reshape, View.set_slice]; rfl
/-- A slot's points-to, as one of its buffer's. -/
theorem slot_pts (c : Dev nD) (d : Fin 2) (t : Fin 8) (kv : Fin 2) (q : PosShare TreeShare) (f : (bufM d).view.ty.Contents (Elt F)) :
    (slotPts c d t kv q f : sProp 𝕄) = ((bufM d).view.loc (c : Thread nD τ) ↦[(slotM d t kv).view.set]{q} f) := rfl

/-- Loading half a slot that has been received. -/
theorem loadBuf_spec (c : Dev nD) (i : Fin 7) (kv d h : Fin 2) (S R : Finset X) (hx : (d, kv, i) ∉ R) (Kt : Vec F S1x1x4x64x512 .bf16 → sProp 𝕄) :
    iprop(St own c S R ∗ (St own c S R -∗ Kt (bufP own c i.succ kv d h))) ⊢ wpc c (loadBuf i.succ kv d h) Kt := by
  unfold loadBuf St
  rw [take (Finset.mem_compl.mpr hx)]
  unfold RecvDone
  simp only [Prog.lift]
  iintro ⟨⟨HO, HS, HP, HR, ⟨Hv, Hslot⟩, HD⟩, Hk⟩
  ihave Hslot := (Entails.of_eq (slot_pts c d i.succ kv (keep i) (gath own c d))) $$ Hslot
  iapply (wp_load 𝒱₀ (c : Thread nD τ) none Set.univ (m := bufM d) (S := (slotM d i.succ kv).view.set)
    (by rw [slot_set]; exact Finset.map_subset_map.mpr (part_sub i.succ kv h))) $$ Hslot
  iintro Hslot
  ihave Hslot := (Entails.of_eq (slot_pts c d i.succ kv (keep i) (gath own c d)).symm) $$ Hslot
  rw [wp_ret, show (bufM d).view.readAt (Elt F) (partR i.succ kv h).toLoadRect (gath own c d) = bufP own c i.succ kv d h from rfl]
  imodintro
  iapply Hk
  isplitl [HO]; · iexact HO
  isplitl [HS]; · iexact HS
  isplitl [HP]; · iexact HP
  isplitl [HR]; · iexact HR
  isplitr [HD]
  · isplitl [Hv] <;> iassumption
  iexact HD

/-! ## The accumulators -/

/-- A group's denominators, read off the buffer. -/
def readDen (g : Fin 4) (f : dM.view.ty.Contents (Elt F)) : Vec F S4x512 .f32 := dM.view.readAt (Elt F) (denR g).toLoadRect f
/-- A group's result so far, read off the buffer. -/
def readOut (g : Fin 4) (f : oM.view.ty.Contents (Elt F)) : Vec F S4x64x512 .f32 := oM.view.readAt (Elt F) (headsR g).toLoadRect f

/-- The accumulators hold `D` and `A`, by group. -/
def AccSt (c : Dev nD) (D : Fin 4 → FVec F S4x512 .f32) (A : Fin 4 → FVec F S4x64x512 .f32) : sProp 𝕄 :=
  iprop(∃ fd fo, ⌜∀ g, readDen g fd = D g⌝ ∗ ⌜∀ g, readOut g fo = A g⌝ ∗ denPts c fd ∗ outPts c fo)

/-- Loading a group of the denominators. -/
theorem loadDen_spec (c : Dev nD) (g : Fin 4) (D A) (Kt : Vec F S4x512 .f32 → sProp 𝕄) :
    iprop(AccSt c D A ∗ (AccSt c D A -∗ Kt (D g))) ⊢ wpc c (loadDen g) Kt := by
  unfold loadDen AccSt
  simp only [Prog.lift]
  iintro ⟨⟨%fd, %fo, %hd, %ho, Hd, Ho⟩, Hk⟩
  iapply (wp_load 𝒱₀ (c : Thread nD τ) none Set.univ (m := dM) (S := Finset.univ) (Finset.subset_univ _)) $$ Hd
  iintro Hd
  rw [wp_ret, show dM.view.readAt (Elt F) (denR g).toLoadRect fd = D g from hd g]
  imodintro
  iapply Hk
  iexists fd, fo
  isplitr; · ipureintro; exact hd
  isplitr; · ipureintro; exact ho
  isplitl [Hd] <;> iassumption

/-- Loading a group of the numerators. -/
theorem loadOut_spec (c : Dev nD) (g : Fin 4) (D A) (Kt : Vec F S4x64x512 .f32 → sProp 𝕄) :
    iprop(AccSt c D A ∗ (AccSt c D A -∗ Kt (A g))) ⊢ wpc c (loadOut g) Kt := by
  unfold loadOut AccSt
  simp only [Prog.lift]
  iintro ⟨⟨%fd, %fo, %hd, %ho, Hd, Ho⟩, Hk⟩
  iapply (wp_load 𝒱₀ (c : Thread nD τ) none Set.univ (m := oM) (S := Finset.univ) (Finset.subset_univ _)) $$ Ho
  iintro Ho
  rw [wp_ret, show oM.view.readAt (Elt F) (headsR g).toLoadRect fo = A g from ho g]
  imodintro
  iapply Hk
  iexists fd, fo
  isplitr; · ipureintro; exact hd
  isplitr; · ipureintro; exact ho
  isplitl [Hd] <;> iassumption

/-- Different groups' rows are apart. -/
theorem den_disj (g g' : Fin 4) (h : g' ≠ g) : Disjoint (denR g').set (denR g).set := by
  rw [Finset.disjoint_left]
  intro i hi hi'
  have h1 := (Rect.mem_set_unit.mp hi) 0
  have h2 := (Rect.mem_set_unit.mp hi') 0
  have h1' : 4 * g'.val ≤ (i 0).val ∧ (i 0).val < 4 * g'.val + 4 := h1
  have h2' : 4 * g.val ≤ (i 0).val ∧ (i 0).val < 4 * g.val + 4 := h2
  exact h (Fin.ext (by omega))
/-- Different groups' heads are apart. -/
theorem heads_disj (g g' : Fin 4) (h : g' ≠ g) : Disjoint (headsR g').set (headsR g).set := by
  rw [Finset.disjoint_left]
  intro i hi hi'
  have h1 := (Rect.mem_set_unit.mp hi) 0
  have h2 := (Rect.mem_set_unit.mp hi') 0
  have h1' : 4 * g'.val ≤ (i 0).val ∧ (i 0).val < 4 * g'.val + 4 := h1
  have h2' : 4 * g.val ≤ (i 0).val ∧ (i 0).val < 4 * g.val + 4 := h2
  exact h (Fin.ext (by omega))

/-- A store through one rectangle leaves what a disjoint one reads. -/
theorem read_other {κ : Kind} {sp : Space} {s : Shape} {e : EltTy} (v : View sig κ sp s e) (r r' : Rect s) (f : v.ty.Contents (Elt F))
    (w : r'.shape.Idx → Elt F e) (h : Disjoint r.set r'.set) :
    (v.slice r).read (Elt F) ((v.slice r').write (Elt F) f w Finset.univ) = (v.slice r).read (Elt F) f :=
  View.read_slice_write_slice_of_disjoint r r' f w _ (by
    rw [View.setOn_univ, View.set_slice, View.set_slice]; exact (Finset.disjoint_map _).mpr h)

/-- Storing a group of the denominators. -/
theorem storeDen_spec (c : Dev nD) (g : Fin 4) (x : FVec F S4x512 .f32) (D A) (Kt : PUnit → sProp 𝕄) :
    iprop(AccSt c D A ∗ (AccSt c (Function.update D g (denV x)) A -∗ Kt ⟨⟩)) ⊢ wpc c (storeDen g x) Kt := by
  unfold storeDen AccSt
  simp only [Prog.lift]
  iintro ⟨⟨%fd, %fo, %hd, %ho, Hd, Ho⟩, Hk⟩
  ihave Hd := (Entails.of_eq (show (denPts c fd : sProp 𝕄) = ((dM.access (denR g)).loc (c : Thread nD τ) ↦[Finset.univ]{fullShare} fd) from rfl)) $$ Hd
  iapply (wp_store 𝒱₀ (c : Thread nD τ) none Set.univ (m := dM) (r := denR g) (S := Finset.univ) (f := fd) (Finset.subset_univ _)) $$ Hd
  iintro Hd
  rw [wp_ret]
  imodintro
  iapply Hk
  iexists ((dM.access (denR g)).write (Elt F) fd (denV x) Finset.univ), fo
  isplitr
  · ipureintro
    intro g'
    by_cases h : g' = g
    · subst h
      rw [Function.update_self]
      exact View.read_write_univ (v := dM.access (denR g')) fd (denV x)
    · rw [Function.update_of_ne h, ← hd g']
      exact read_other dM.view (denR g') (denR g) fd (denV x) (den_disj g g' h)
  isplitr; · ipureintro; exact ho
  isplitl [Hd]; · iexact Hd
  iexact Ho

/-- Storing a group of the numerators. -/
theorem storeOut_spec (c : Dev nD) (g : Fin 4) (x : FVec F S4x64x512 .f32) (D A) (Kt : PUnit → sProp 𝕄) :
    iprop(AccSt c D A ∗ (AccSt c D (Function.update A g x) -∗ Kt ⟨⟩)) ⊢ wpc c (storeOut g x) Kt := by
  unfold storeOut AccSt
  simp only [Prog.lift]
  iintro ⟨⟨%fd, %fo, %hd, %ho, Hd, Ho⟩, Hk⟩
  ihave Ho := (Entails.of_eq (show (outPts c fo : sProp 𝕄) = ((oM.access (headsR g)).loc (c : Thread nD τ) ↦[Finset.univ]{fullShare} fo) from rfl)) $$ Ho
  iapply (wp_store 𝒱₀ (c : Thread nD τ) none Set.univ (m := oM) (r := headsR g) (S := Finset.univ) (f := fo) (Finset.subset_univ _)) $$ Ho
  iintro Ho
  rw [wp_ret]
  imodintro
  iapply Hk
  iexists fd, ((oM.access (headsR g)).write (Elt F) fo x Finset.univ)
  isplitr; · ipureintro; exact hd
  isplitr
  · ipureintro
    intro g'
    by_cases h : g' = g
    · subst h
      rw [Function.update_self]
      exact View.read_write_univ (v := oM.access (headsR g')) fo x
    · rw [Function.update_of_ne h, ← ho g']
      exact read_other oM.view (headsR g') (headsR g) fo x (heads_disj g g' h)
  isplitl [Hd]; · iexact Hd
  iexact Ho

/-! ## Weights and accumulation, by group -/

/-- The first step's weights. -/
theorem scoreFirst_spec (c : Dev nD) (g : Fin 4) (q : PosShare TreeShare) (Kt : FVec F S4x512x512 .f32 → sProp 𝕄) :
    iprop((qPts c (qf c) ∗ ownPts c 0 q (own c 0)) ∗ ((qPts c (qf c) ∗ ownPts c 0 q (own c 0)) -∗ Kt (score qf own c g 0)))
      ⊢ wpc c (scoreFirst g) Kt := by
  unfold scoreFirst
  simp only [wp_bind]
  iintro ⟨⟨Hq, Ho⟩, Hk⟩
  iapply (loadOwn_spec own c 0 g q _)
  isplitl [Ho]; · iexact Ho
  iintro Ho
  iapply (loadQ_spec qf c g _)
  isplitl [Hq]; · iexact Hq
  iintro Hq
  rw [Prog.pure_eq_ret, wp_ret, show scoreV (ownV (ownP own c 0 g)) (qP qf c g) = score qf own c g 0 from rfl]
  imodintro
  iapply Hk
  isplitl [Hq] <;> iassumption

/-- A later step's weights. -/
theorem scoreLater_spec (c : Dev nD) (i : Fin 7) (g : Fin 4) (S R : Finset X) (hx : (ringOf g, 0, i) ∉ R) (Kt : FVec F S4x512x512 .f32 → sProp 𝕄) :
    iprop((qPts c (qf c) ∗ St own c S R) ∗ ((qPts c (qf c) ∗ St own c S R) -∗ Kt (score qf own c g i.succ)))
      ⊢ wpc c (scoreLater i.succ g) Kt := by
  unfold scoreLater
  simp only [wp_bind]
  iintro ⟨⟨Hq, Ho⟩, Hk⟩
  iapply (loadBuf_spec own c i 0 (ringOf g) (partOf g) S R hx _)
  isplitl [Ho]; · iexact Ho
  iintro Ho
  iapply (loadQ_spec qf c g _)
  isplitl [Hq]; · iexact Hq
  iintro Hq
  rw [Prog.pure_eq_ret, wp_ret, show scoreV (bufV (bufP own c i.succ 0 (ringOf g) (partOf g))) (qP qf c g) = score qf own c g i.succ from rfl]
  imodintro
  iapply Hk
  isplitl [Hq] <;> iassumption

/-- The first step's accumulation. -/
theorem accFirst_spec (c : Dev nD) (g : Fin 4) (q : PosShare TreeShare) (D A) (Kt : PUnit → sProp 𝕄) :
    iprop((ownPts c 1 q (own c 1) ∗ AccSt c D A)
        ∗ ((ownPts c 1 q (own c 1) ∗ AccSt c (Function.update D g (den qf own c g 0)) (Function.update A g (num qf own c g 0))) -∗ Kt ⟨⟩))
      ⊢ wpc c (accFirst g (score qf own c g 0)) Kt := by
  unfold accFirst
  simp only [wp_bind]
  iintro ⟨⟨Ho, HA⟩, Hk⟩
  iapply (loadOwn_spec own c 1 g q _)
  isplitl [Ho]; · iexact Ho
  iintro Ho
  iapply (loadDen_spec c g D A _)
  isplitl [HA]; · iexact HA
  iintro HA
  iapply (storeDen_spec c g _ D A _)
  isplitl [HA]; · iexact HA
  iintro HA
  iapply (loadOut_spec c g _ A _)
  isplitl [HA]; · iexact HA
  iintro HA
  iapply (storeOut_spec c g _ _ A _)
  isplitl [HA]; · iexact HA
  iintro HA
  iapply Hk
  isplitl [Ho]; · iexact Ho
  iexact HA

/-- A middle step's accumulation. -/
theorem accMid_spec (c : Dev nD) (i : Fin 7) (g : Fin 4) (S R : Finset X) (hx : (ringOf g, 1, i) ∉ R) (n : ℕ) (hn : Fin.ofNat 8 (n + 1) = i.succ)
    (D A) (hD : D g = den qf own c g n) (hA : A g = num qf own c g n) (Kt : PUnit → sProp 𝕄) :
    iprop((St own c S R ∗ AccSt c D A)
        ∗ ((St own c S R ∗ AccSt c (Function.update D g (den qf own c g (n + 1))) (Function.update A g (num qf own c g (n + 1)))) -∗ Kt ⟨⟩))
      ⊢ wpc c (accMid i.succ g (score qf own c g i.succ)) Kt := by
  unfold accMid
  simp only [wp_bind]
  iintro ⟨⟨Ho, HA⟩, Hk⟩
  iapply (loadBuf_spec own c i 1 (ringOf g) (partOf g) S R hx _)
  isplitl [Ho]; · iexact Ho
  iintro Ho
  iapply (loadDen_spec c g D A _)
  isplitl [HA]; · iexact HA
  iintro HA
  iapply (loadDen_spec c g D A _)
  isplitl [HA]; · iexact HA
  iintro HA
  iapply (storeDen_spec c g _ D A _)
  isplitl [HA]; · iexact HA
  iintro HA
  iapply (loadOut_spec c g _ A _)
  isplitl [HA]; · iexact HA
  iintro HA
  iapply (loadOut_spec c g _ A _)
  isplitl [HA]; · iexact HA
  iintro HA
  iapply (storeOut_spec c g _ _ A _)
  isplitl [HA]; · iexact HA
  iintro HA
  iapply Hk
  isplitl [Ho]; · iexact Ho
  rw [hD, hA, den, num, hn]
  iexact HA

/-- The last step's accumulation. -/
theorem accLast_spec (c : Dev nD) (g : Fin 4) (S R : Finset X) (hx : (ringOf g, 1, 6) ∉ R)
    (D A) (hD : D g = den qf own c g 6) (hA : A g = num qf own c g 6) (Kt : PUnit → sProp 𝕄) :
    iprop((St own c S R ∗ AccSt c D A) ∗ ((St own c S R ∗ AccSt c D (Function.update A g (res qf own c g))) -∗ Kt ⟨⟩))
      ⊢ wpc c (accLast g (score qf own c g 7)) Kt := by
  unfold accLast
  simp only [wp_bind]
  iintro ⟨⟨Ho, HA⟩, Hk⟩
  iapply (loadBuf_spec own c 6 1 (ringOf g) (partOf g) S R hx _)
  isplitl [Ho]; · iexact Ho
  iintro Ho
  iapply (loadDen_spec c g D A _)
  isplitl [HA]; · iexact HA
  iintro HA
  iapply (loadOut_spec c g _ A _)
  isplitl [HA]; · iexact HA
  iintro HA
  iapply (loadOut_spec c g _ A _)
  isplitl [HA]; · iexact HA
  iintro HA
  iapply (storeOut_spec c g _ _ A _)
  isplitl [HA]; · iexact HA
  iintro HA
  iapply Hk
  isplitl [Ho]; · iexact Ho
  rw [hD, hA]
  iexact HA

/-- Contents whose groups are the results are the result. -/
theorem out_eq (c : Dev nD) (fo : oM.view.ty.Contents (Elt F)) (h : ∀ g, readOut g fo = res qf own c g) : fo = outV qf own c := by
  funext i
  have hi : (i 0).val < 16 := (i 0).isLt
  have := congrFun (h ⟨(i 0).val / 4, by omega⟩) (ix3 (⟨(i 0).val % 4, by omega⟩ : Fin 4) (i 1 : Fin 64) (i 2 : Fin 512))
  refine Eq.trans ?_ this
  show fo i = fo _
  congr 1
  funext a
  apply Fin.ext
  match a with
  | ⟨0, _⟩ => show (i 0).val = 4 * ((i 0).val / 4) + 1 * ((i 0).val % 4); omega
  | ⟨1, _⟩ => show (i 1).val = 0 + 1 * (i 1).val; omega
  | ⟨2, _⟩ => show (i 2).val = 0 + 1 * (i 2).val; omega

end Cert.Attn

end
-- ==== Proof.Steps.lean ====
/- The body's steps, the ring and the computation together. -/
module

public import proofs.«01_k».proof.Proof.Acc

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (qf : Dev nD → qM.view.ty.Contents (Elt F)) (own : Own F) (K : GSem nD τ sig → ℕ)

/-- The transfers of index `n` and later. -/
def aft (n : ℕ) : Finset X := Finset.univ.filter fun x => n ≤ x.2.2.val
/-- Membership. -/
theorem mem_aft (n : ℕ) (x : X) : x ∈ aft n ↔ n ≤ x.2.2.val := by unfold aft; simp
/-- All transfers. -/
theorem aft_zero : aft 0 = Finset.univ := by decide
/-- No transfers. -/
theorem aft_seven : aft 7 = ∅ := by decide
/-- A step's four transfers done, the later ones are left. -/
theorem aft_succ (i : Fin 7) : ((((aft i.val).erase (0, 0, i)).erase (1, 0, i)).erase (0, 1, i)).erase (1, 1, i) = aft (i.val + 1) := by
  ext ⟨d, kv, k⟩
  simp only [Finset.mem_erase, mem_aft, Prod.mk.injEq, ne_eq, not_and, Fin.ext_iff]
  have := d.isLt; have := kv.isLt
  show _ ↔ i.val + 1 ≤ k.val
  constructor
  · rintro ⟨h1, h2, h3, h4, h5⟩
    simp only [Fin.val_zero, Fin.val_one] at *
    by_contra h6
    have hk : k.val = i.val := by omega
    rcases (show d.val = 0 ∨ d.val = 1 by omega) with hd | hd <;> rcases (show kv.val = 0 ∨ kv.val = 1 by omega) with hv | hv <;>
      first | exact h1 hd hv hk | exact h2 hd hv hk | exact h3 hd hv hk | exact h4 hd hv hk
  · intro h
    refine ⟨?_, ?_, ?_, ?_, by omega⟩ <;> intro _ _ <;> omega

/-- Nothing before a step's own transfers is owed when it waits. -/
theorem lt_of_sub {S : Finset X} {n : ℕ} (h : S ⊆ aft (n + 1)) : ∀ y ∈ S, n < y.2.2.val := fun y hy => (mem_aft _ _).mp (h hy)

/-! ## The four groups together -/

/-- Updating every group. -/
theorem update_all {β : Type} (D E : Fin 4 → β) :
    Function.update (Function.update (Function.update (Function.update D 0 (E 0)) 1 (E 1)) 2 (E 2)) 3 (E 3) = E := by
  funext g
  match g with
  | 0 => rfl
  | 1 => rfl
  | 2 => rfl
  | 3 => rfl

/-- Opening: the first sends, the weights and the accumulation over the device's own keys and values. -/
theorem stepFirst_spec (c : Dev nD) (D A) (Kt : PUnit → sProp 𝕄) :
    iprop(invX own K ∗ (St own c (aft 0) (aft 0)
          ∗ (srcPts c 0 0 0 fullShare.left (srcB own c 0 0 0) ∗ srcPts c 1 0 0 fullShare.left (srcB own c 1 0 0)
            ∗ srcPts c 0 1 0 fullShare.left (srcB own c 0 1 0) ∗ srcPts c 1 1 0 fullShare.left (srcB own c 1 1 0))
          ∗ qPts c (qf c) ∗ ownPts c 0 fullShare.right (own c 0) ∗ ownPts c 1 fullShare.right (own c 1) ∗ AccSt c D A)
        ∗ ((St own c (aft 1) (aft 0) ∗ qPts c (qf c) ∗ ownPts c 0 fullShare.right (own c 0) ∗ ownPts c 1 fullShare.right (own c 1)
            ∗ AccSt c (fun g => den qf own c g 0) (fun g => num qf own c g 0)) -∗ Kt ⟨⟩))
      ⊢ wpc c (stepFirst c) Kt := by
  unfold stepFirst
  simp only [wp_bind]
  iintro ⟨#HI, ⟨HSt, ⟨Hs0, Hs1, Hs2, Hs3⟩, Hq, Hk0, Hk1, HA⟩, Hk⟩
  iapply (send_spec own K c 0 0 0 (aft 0) (aft 0) (by simp [mem_aft]) _)
  isplitr; · iexact HI
  isplitl [HSt]; · iexact HSt
  isplitl [Hs0]; · iexact Hs0
  iintro HSt
  iapply (send_spec own K c 1 0 0 ((aft 0).erase (0, 0, 0)) (aft 0) (by simp [mem_aft]) _)
  isplitr; · iexact HI
  isplitl [HSt]; · iexact HSt
  isplitl [Hs1]; · iexact Hs1
  iintro HSt
  iapply (scoreFirst_spec qf own c 0 fullShare.right _)
  isplitl [Hq Hk0]; · isplitl [Hq] <;> iassumption
  iintro ⟨Hq, Hk0⟩
  iapply (scoreFirst_spec qf own c 1 fullShare.right _)
  isplitl [Hq Hk0]; · isplitl [Hq] <;> iassumption
  iintro ⟨Hq, Hk0⟩
  iapply (scoreFirst_spec qf own c 2 fullShare.right _)
  isplitl [Hq Hk0]; · isplitl [Hq] <;> iassumption
  iintro ⟨Hq, Hk0⟩
  iapply (scoreFirst_spec qf own c 3 fullShare.right _)
  isplitl [Hq Hk0]; · isplitl [Hq] <;> iassumption
  iintro ⟨Hq, Hk0⟩
  iapply (send_spec own K c 0 1 0 (((aft 0).erase (0, 0, 0)).erase (1, 0, 0)) (aft 0) (by simp [mem_aft]) _)
  isplitr; · iexact HI
  isplitl [HSt]; · iexact HSt
  isplitl [Hs2]; · iexact Hs2
  iintro HSt
  iapply (send_spec own K c 1 1 0 ((((aft 0).erase (0, 0, 0)).erase (1, 0, 0)).erase (0, 1, 0)) (aft 0) (by simp [mem_aft]) _)
  isplitr; · iexact HI
  isplitl [HSt]; · iexact HSt
  isplitl [Hs3]; · iexact Hs3
  iintro HSt
  iapply (accFirst_spec qf own c 0 fullShare.right D A _)
  isplitl [Hk1 HA]; · isplitl [Hk1] <;> iassumption
  iintro ⟨Hk1, HA⟩
  iapply (accFirst_spec qf own c 1 fullShare.right _ _ _)
  isplitl [Hk1 HA]; · isplitl [Hk1] <;> iassumption
  iintro ⟨Hk1, HA⟩
  iapply (accFirst_spec qf own c 2 fullShare.right _ _ _)
  isplitl [Hk1 HA]; · isplitl [Hk1] <;> iassumption
  iintro ⟨Hk1, HA⟩
  iapply (accFirst_spec qf own c 3 fullShare.right _ _ _)
  isplitl [Hk1 HA]; · isplitl [Hk1] <;> iassumption
  iintro ⟨Hk1, HA⟩
  iapply Hk
  rw [show ((((aft 0).erase (0, 0, 0)).erase (1, 0, 0)).erase (0, 1, 0)).erase (1, 1, 0) = aft 1 from aft_succ 0,
    update_all D (fun g => den qf own c g 0), update_all A (fun g => num qf own c g 0)]
  isplitl [HSt]; · iexact HSt
  isplitl [Hq]; · iexact Hq
  isplitl [Hk0]; · iexact Hk0
  isplitl [Hk1] <;> iassumption

/-- A middle step: four hops, the weights and the accumulation over what they brought. -/
theorem stepMid_spec (c : Dev nD) (j : Fin 6) (Kt : PUnit → sProp 𝕄) :
    iprop(invX own K ∗ levAts L lv ∗ (St own c (aft (j.val + 1)) (aft j.val) ∗ qPts c (qf c)
          ∗ AccSt c (fun g => den qf own c g j.val) (fun g => num qf own c g j.val))
        ∗ ((St own c (aft (j.val + 2)) (aft (j.val + 1)) ∗ qPts c (qf c)
            ∗ AccSt c (fun g => den qf own c g (j.val + 1)) (fun g => num qf own c g (j.val + 1))) -∗ Kt ⟨⟩))
      ⊢ wpc c (stepMid c j) Kt := by
  have hn : Fin.ofNat 8 (j.val + 1) = j.castSucc.succ := by revert j; decide
  have hs := aft_succ j.succ
  have hr := aft_succ j.castSucc
  have e0 : j.succ.castSucc = j.castSucc.succ := by revert j; decide
  unfold stepMid
  simp only [wp_bind, e0]
  iintro ⟨#HI, #Hlev, ⟨HSt, Hq, HA⟩, Hk⟩
  iapply (recv_spec own K c 0 0 j.castSucc (aft (j.val + 1)) (aft j.val) (by simp [mem_aft]) (lt_of_sub (Finset.Subset.refl _)) _)
  isplitr; · iexact HI
  isplitr; · iexact Hlev
  isplitl [HSt]; · iexact HSt
  iintro ⟨HSt, Hl⟩
  iapply (send_spec own K c 0 0 j.succ (aft (j.val + 1)) ((aft j.val).erase (0, 0, j.castSucc)) (by simp [mem_aft]) _)
  isplitr; · iexact HI
  isplitl [HSt]; · iexact HSt
  isplitl [Hl]; · rw [← lend_src]; iexact Hl
  iintro HSt
  iapply (recv_spec own K c 1 0 j.castSucc ((aft (j.val + 1)).erase (0, 0, j.succ)) ((aft j.val).erase (0, 0, j.castSucc)) (by simp [mem_aft]) (lt_of_sub ((Finset.erase_subset _ _).trans (Finset.Subset.refl _))) _)
  isplitr; · iexact HI
  isplitr; · iexact Hlev
  isplitl [HSt]; · iexact HSt
  iintro ⟨HSt, Hl⟩
  iapply (send_spec own K c 1 0 j.succ ((aft (j.val + 1)).erase (0, 0, j.succ)) (((aft j.val).erase (0, 0, j.castSucc)).erase (1, 0, j.castSucc)) (by simp [mem_aft]) _)
  isplitr; · iexact HI
  isplitl [HSt]; · iexact HSt
  isplitl [Hl]; · rw [← lend_src]; iexact Hl
  iintro HSt
  iapply (scoreLater_spec qf own c j.castSucc 0 (((aft (j.val + 1)).erase (0, 0, j.succ)).erase (1, 0, j.succ)) (((aft j.val).erase (0, 0, j.castSucc)).erase (1, 0, j.castSucc)) (by simp [ringOf]) _)
  isplitl [Hq HSt]; · isplitl [Hq] <;> iassumption
  iintro ⟨Hq, HSt⟩
  iapply (scoreLater_spec qf own c j.castSucc 1 (((aft (j.val + 1)).erase (0, 0, j.succ)).erase (1, 0, j.succ)) (((aft j.val).erase (0, 0, j.castSucc)).erase (1, 0, j.castSucc)) (by simp [ringOf]) _)
  isplitl [Hq HSt]; · isplitl [Hq] <;> iassumption
  iintro ⟨Hq, HSt⟩
  iapply (scoreLater_spec qf own c j.castSucc 2 (((aft (j.val + 1)).erase (0, 0, j.succ)).erase (1, 0, j.succ)) (((aft j.val).erase (0, 0, j.castSucc)).erase (1, 0, j.castSucc)) (by simp [ringOf]) _)
  isplitl [Hq HSt]; · isplitl [Hq] <;> iassumption
  iintro ⟨Hq, HSt⟩
  iapply (scoreLater_spec qf own c j.castSucc 3 (((aft (j.val + 1)).erase (0, 0, j.succ)).erase (1, 0, j.succ)) (((aft j.val).erase (0, 0, j.castSucc)).erase (1, 0, j.castSucc)) (by simp [ringOf]) _)
  isplitl [Hq HSt]; · isplitl [Hq] <;> iassumption
  iintro ⟨Hq, HSt⟩
  iapply (recv_spec own K c 0 1 j.castSucc (((aft (j.val + 1)).erase (0, 0, j.succ)).erase (1, 0, j.succ)) (((aft j.val).erase (0, 0, j.castSucc)).erase (1, 0, j.castSucc)) (by simp [mem_aft]) (lt_of_sub ((Finset.erase_subset _ _).trans ((Finset.erase_subset _ _).trans (Finset.Subset.refl _)))) _)
  isplitr; · iexact HI
  isplitr; · iexact Hlev
  isplitl [HSt]; · iexact HSt
  iintro ⟨HSt, Hl⟩
  iapply (send_spec own K c 0 1 j.succ (((aft (j.val + 1)).erase (0, 0, j.succ)).erase (1, 0, j.succ)) ((((aft j.val).erase (0, 0, j.castSucc)).erase (1, 0, j.castSucc)).erase (0, 1, j.castSucc)) (by simp [mem_aft]) _)
  isplitr; · iexact HI
  isplitl [HSt]; · iexact HSt
  isplitl [Hl]; · rw [← lend_src]; iexact Hl
  iintro HSt
  iapply (recv_spec own K c 1 1 j.castSucc ((((aft (j.val + 1)).erase (0, 0, j.succ)).erase (1, 0, j.succ)).erase (0, 1, j.succ)) ((((aft j.val).erase (0, 0, j.castSucc)).erase (1, 0, j.castSucc)).erase (0, 1, j.castSucc)) (by simp [mem_aft]) (lt_of_sub ((Finset.erase_subset _ _).trans ((Finset.erase_subset _ _).trans ((Finset.erase_subset _ _).trans (Finset.Subset.refl _))))) _)
  isplitr; · iexact HI
  isplitr; · iexact Hlev
  isplitl [HSt]; · iexact HSt
  iintro ⟨HSt, Hl⟩
  iapply (send_spec own K c 1 1 j.succ ((((aft (j.val + 1)).erase (0, 0, j.succ)).erase (1, 0, j.succ)).erase (0, 1, j.succ)) (((((aft j.val).erase (0, 0, j.castSucc)).erase (1, 0, j.castSucc)).erase (0, 1, j.castSucc)).erase (1, 1, j.castSucc)) (by simp [mem_aft]) _)
  isplitr; · iexact HI
  isplitl [HSt]; · iexact HSt
  isplitl [Hl]; · rw [← lend_src]; iexact Hl
  iintro HSt
  iapply (accMid_spec qf own c j.castSucc 0 (((((aft (j.val + 1)).erase (0, 0, j.succ)).erase (1, 0, j.succ)).erase (0, 1, j.succ)).erase (1, 1, j.succ)) (((((aft j.val).erase (0, 0, j.castSucc)).erase (1, 0, j.castSucc)).erase (0, 1, j.castSucc)).erase (1, 1, j.castSucc)) (by simp [ringOf]) j.val hn (fun g => den qf own c g j.val) (fun g => num qf own c g j.val) rfl rfl _)
  isplitl [HSt HA]; · isplitl [HSt] <;> iassumption
  iintro ⟨HSt, HA⟩
  iapply (accMid_spec qf own c j.castSucc 1 (((((aft (j.val + 1)).erase (0, 0, j.succ)).erase (1, 0, j.succ)).erase (0, 1, j.succ)).erase (1, 1, j.succ)) (((((aft j.val).erase (0, 0, j.castSucc)).erase (1, 0, j.castSucc)).erase (0, 1, j.castSucc)).erase (1, 1, j.castSucc)) (by simp [ringOf]) j.val hn (Function.update (fun g => den qf own c g j.val) 0 (den qf own c 0 (j.val + 1))) (Function.update (fun g => num qf own c g j.val) 0 (num qf own c 0 (j.val + 1))) rfl rfl _)
  isplitl [HSt HA]; · isplitl [HSt] <;> iassumption
  iintro ⟨HSt, HA⟩
  iapply (accMid_spec qf own c j.castSucc 2 (((((aft (j.val + 1)).erase (0, 0, j.succ)).erase (1, 0, j.succ)).erase (0, 1, j.succ)).erase (1, 1, j.succ)) (((((aft j.val).erase (0, 0, j.castSucc)).erase (1, 0, j.castSucc)).erase (0, 1, j.castSucc)).erase (1, 1, j.castSucc)) (by simp [ringOf]) j.val hn (Function.update (Function.update (fun g => den qf own c g j.val) 0 (den qf own c 0 (j.val + 1))) 1 (den qf own c 1 (j.val + 1))) (Function.update (Function.update (fun g => num qf own c g j.val) 0 (num qf own c 0 (j.val + 1))) 1 (num qf own c 1 (j.val + 1))) rfl rfl _)
  isplitl [HSt HA]; · isplitl [HSt] <;> iassumption
  iintro ⟨HSt, HA⟩
  iapply (accMid_spec qf own c j.castSucc 3 (((((aft (j.val + 1)).erase (0, 0, j.succ)).erase (1, 0, j.succ)).erase (0, 1, j.succ)).erase (1, 1, j.succ)) (((((aft j.val).erase (0, 0, j.castSucc)).erase (1, 0, j.castSucc)).erase (0, 1, j.castSucc)).erase (1, 1, j.castSucc)) (by simp [ringOf]) j.val hn (Function.update (Function.update (Function.update (fun g => den qf own c g j.val) 0 (den qf own c 0 (j.val + 1))) 1 (den qf own c 1 (j.val + 1))) 2 (den qf own c 2 (j.val + 1))) (Function.update (Function.update (Function.update (fun g => num qf own c g j.val) 0 (num qf own c 0 (j.val + 1))) 1 (num qf own c 1 (j.val + 1))) 2 (num qf own c 2 (j.val + 1))) rfl rfl _)
  isplitl [HSt HA]; · isplitl [HSt] <;> iassumption
  iintro ⟨HSt, HA⟩
  iapply Hk
  rw [show ((((aft (j.val + 1)).erase (0, 0, j.succ)).erase (1, 0, j.succ)).erase (0, 1, j.succ)).erase (1, 1, j.succ) = aft (j.val + 2) from hs,
    show ((((aft j.val).erase (0, 0, j.castSucc)).erase (1, 0, j.castSucc)).erase (0, 1, j.castSucc)).erase (1, 1, j.castSucc) = aft (j.val + 1) from hr,
    update_all _ (fun g => den qf own c g (j.val + 1)), update_all _ (fun g => num qf own c g (j.val + 1))]
  isplitl [HSt]; · iexact HSt
  isplitl [Hq] <;> iassumption

/-- The last step: four waits, the weights, the accumulation and the quotient. -/
theorem stepLast_spec (c : Dev nD) (Kt : PUnit → sProp 𝕄) :
    iprop(invX own K ∗ levAts L lv ∗ (St own c ∅ (aft 6) ∗ qPts c (qf c)
          ∗ AccSt c (fun g => den qf own c g 6) (fun g => num qf own c g 6))
        ∗ ((St own c ∅ ∅ ∗ qPts c (qf c) ∗ AccSt c (fun g => den qf own c g 6) (res qf own c)) -∗ Kt ⟨⟩))
      ⊢ wpc c stepLast Kt := by
  have hr := aft_succ 6
  have h7 : (7 : Fin 8) = (6 : Fin 7).succ := rfl
  have h0 : ∀ y ∈ (∅ : Finset X), (6 : Fin 7).val < y.2.2.val := fun y hy => absurd hy (Finset.notMem_empty y)
  unfold stepLast
  simp only [wp_bind]
  iintro ⟨#HI, #Hlev, ⟨HSt, Hq, HA⟩, Hk⟩
  iapply (recv_spec own K c 0 0 6 ∅ (aft 6) (by simp [mem_aft]) h0 _)
  isplitr; · iexact HI
  isplitr; · iexact Hlev
  isplitl [HSt]; · iexact HSt
  iintro ⟨HSt, -⟩
  iapply (recv_spec own K c 1 0 6 ∅ ((aft 6).erase (0, 0, 6)) (by simp [mem_aft]) h0 _)
  isplitr; · iexact HI
  isplitr; · iexact Hlev
  isplitl [HSt]; · iexact HSt
  iintro ⟨HSt, -⟩
  iapply (scoreLater_spec qf own c 6 0 ∅ (((aft 6).erase (0, 0, 6)).erase (1, 0, 6)) (by simp [ringOf]) _)
  isplitl [Hq HSt]; · isplitl [Hq] <;> iassumption
  iintro ⟨Hq, HSt⟩
  iapply (scoreLater_spec qf own c 6 1 ∅ (((aft 6).erase (0, 0, 6)).erase (1, 0, 6)) (by simp [ringOf]) _)
  isplitl [Hq HSt]; · isplitl [Hq] <;> iassumption
  iintro ⟨Hq, HSt⟩
  iapply (scoreLater_spec qf own c 6 2 ∅ (((aft 6).erase (0, 0, 6)).erase (1, 0, 6)) (by simp [ringOf]) _)
  isplitl [Hq HSt]; · isplitl [Hq] <;> iassumption
  iintro ⟨Hq, HSt⟩
  iapply (scoreLater_spec qf own c 6 3 ∅ (((aft 6).erase (0, 0, 6)).erase (1, 0, 6)) (by simp [ringOf]) _)
  isplitl [Hq HSt]; · isplitl [Hq] <;> iassumption
  iintro ⟨Hq, HSt⟩
  iapply (recv_spec own K c 0 1 6 ∅ (((aft 6).erase (0, 0, 6)).erase (1, 0, 6)) (by simp [mem_aft]) h0 _)
  isplitr; · iexact HI
  isplitr; · iexact Hlev
  isplitl [HSt]; · iexact HSt
  iintro ⟨HSt, -⟩
  iapply (recv_spec own K c 1 1 6 ∅ ((((aft 6).erase (0, 0, 6)).erase (1, 0, 6)).erase (0, 1, 6)) (by simp [mem_aft]) h0 _)
  isplitr; · iexact HI
  isplitr; · iexact Hlev
  isplitl [HSt]; · iexact HSt
  iintro ⟨HSt, -⟩
  iapply (accLast_spec qf own c 0 ∅ (((((aft 6).erase (0, 0, 6)).erase (1, 0, 6)).erase (0, 1, 6)).erase (1, 1, 6)) (by simp [ringOf]) (fun g => den qf own c g 6) (fun g => num qf own c g 6) rfl rfl _)
  isplitl [HSt HA]; · isplitl [HSt] <;> iassumption
  iintro ⟨HSt, HA⟩
  iapply (accLast_spec qf own c 1 ∅ (((((aft 6).erase (0, 0, 6)).erase (1, 0, 6)).erase (0, 1, 6)).erase (1, 1, 6)) (by simp [ringOf]) (fun g => den qf own c g 6) (Function.update (fun g => num qf own c g 6) 0 (res qf own c 0)) rfl rfl _)
  isplitl [HSt HA]; · isplitl [HSt] <;> iassumption
  iintro ⟨HSt, HA⟩
  iapply (accLast_spec qf own c 2 ∅ (((((aft 6).erase (0, 0, 6)).erase (1, 0, 6)).erase (0, 1, 6)).erase (1, 1, 6)) (by simp [ringOf]) (fun g => den qf own c g 6) (Function.update (Function.update (fun g => num qf own c g 6) 0 (res qf own c 0)) 1 (res qf own c 1)) rfl rfl _)
  isplitl [HSt HA]; · isplitl [HSt] <;> iassumption
  iintro ⟨HSt, HA⟩
  iapply (accLast_spec qf own c 3 ∅ (((((aft 6).erase (0, 0, 6)).erase (1, 0, 6)).erase (0, 1, 6)).erase (1, 1, 6)) (by simp [ringOf]) (fun g => den qf own c g 6) (Function.update (Function.update (Function.update (fun g => num qf own c g 6) 0 (res qf own c 0)) 1 (res qf own c 1)) 2 (res qf own c 2)) rfl rfl _)
  isplitl [HSt HA]; · isplitl [HSt] <;> iassumption
  iintro ⟨HSt, HA⟩
  iapply Hk
  rw [show ((((aft 6).erase (0, 0, 6)).erase (1, 0, 6)).erase (0, 1, 6)).erase (1, 1, 6) = ∅ from hr.trans aft_seven,
    update_all _ (res qf own c)]
  isplitl [HSt]; · iexact HSt
  isplitl [Hq] <;> iassumption

/-- What is held while the last waits go on: `E` still pending. -/
def Dr (c : Dev nD) (E : Finset X) : sProp 𝕄 :=
  iprop((∃ W, owes (c : Thread nD τ) (0 : CellTallies nD τ sig Unit) W) ∗ bigSep E (PendTk c) ∗ bigSep Eᶜ (SendDone own c))

/-- What is left pending after one ring's keys' or values' waits. -/
def strip (E : Finset X) (d kv : Fin 2) : Finset X := E.filter fun x => ¬ (x.1 = d ∧ x.2.1 = kv)

/-- The final waits of one ring's keys or values. -/
theorem drain_spec (c : Dev nD) (d kv : Fin 2) (E : Finset X) (hE : ∀ i, (d, kv, i) ∈ E) (Kt : PUnit → sProp 𝕄) :
    iprop(invX own K ∗ Dr own c E ∗ (Dr own c (strip E d kv) -∗ Kt ⟨⟩)) ⊢ wpc c (drain d kv) Kt := by
  have he : ((((((E.erase (d, kv, 0)).erase (d, kv, 1)).erase (d, kv, 2)).erase (d, kv, 3)).erase (d, kv, 4)).erase (d, kv, 5)).erase (d, kv, 6)
      = strip E d kv := by
    ext ⟨a, b, i⟩
    unfold strip
    simp only [Finset.mem_erase, Finset.mem_filter, Prod.mk.injEq, ne_eq]
    constructor
    · rintro ⟨h6, h5, h4, h3, h2, h1, h0, h⟩
      refine ⟨h, fun hab => ?_⟩
      match i with
      | 0 => exact h0 ⟨hab.1, hab.2, rfl⟩
      | 1 => exact h1 ⟨hab.1, hab.2, rfl⟩
      | 2 => exact h2 ⟨hab.1, hab.2, rfl⟩
      | 3 => exact h3 ⟨hab.1, hab.2, rfl⟩
      | 4 => exact h4 ⟨hab.1, hab.2, rfl⟩
      | 5 => exact h5 ⟨hab.1, hab.2, rfl⟩
      | 6 => exact h6 ⟨hab.1, hab.2, rfl⟩
    · rintro ⟨h, hab⟩
      exact ⟨fun e => hab ⟨e.1, e.2.1⟩, fun e => hab ⟨e.1, e.2.1⟩, fun e => hab ⟨e.1, e.2.1⟩, fun e => hab ⟨e.1, e.2.1⟩,
        fun e => hab ⟨e.1, e.2.1⟩, fun e => hab ⟨e.1, e.2.1⟩, fun e => hab ⟨e.1, e.2.1⟩, h⟩
  unfold drain
  simp only [wp_bind]
  rw [← he]
  unfold Dr
  iintro ⟨#HI, HD, Hk⟩
  iapply (sent_spec own K c d kv 0 E (hE 0) _)
  isplitr; · iexact HI
  isplitl [HD]; · iexact HD
  iintro HD
  iapply (sent_spec own K c d kv 1 (E.erase (d, kv, 0)) (by simp [hE]) _)
  isplitr; · iexact HI
  isplitl [HD]; · iexact HD
  iintro HD
  iapply (sent_spec own K c d kv 2 ((E.erase (d, kv, 0)).erase (d, kv, 1)) (by simp [hE]) _)
  isplitr; · iexact HI
  isplitl [HD]; · iexact HD
  iintro HD
  iapply (sent_spec own K c d kv 3 (((E.erase (d, kv, 0)).erase (d, kv, 1)).erase (d, kv, 2)) (by simp [hE]) _)
  isplitr; · iexact HI
  isplitl [HD]; · iexact HD
  iintro HD
  iapply (sent_spec own K c d kv 4 ((((E.erase (d, kv, 0)).erase (d, kv, 1)).erase (d, kv, 2)).erase (d, kv, 3)) (by simp [hE]) _)
  isplitr; · iexact HI
  isplitl [HD]; · iexact HD
  iintro HD
  iapply (sent_spec own K c d kv 5 (((((E.erase (d, kv, 0)).erase (d, kv, 1)).erase (d, kv, 2)).erase (d, kv, 3)).erase (d, kv, 4)) (by simp [hE]) _)
  isplitr; · iexact HI
  isplitl [HD]; · iexact HD
  iintro HD
  iapply (sent_spec own K c d kv 6 ((((((E.erase (d, kv, 0)).erase (d, kv, 1)).erase (d, kv, 2)).erase (d, kv, 3)).erase (d, kv, 4)).erase (d, kv, 5)) (by simp [hE]) _)
  isplitr; · iexact HI
  isplitl [HD]; · iexact HD
  iexact Hk

end Cert.Attn

end
-- ==== Proof.Body.lean ====
/- The body as a whole: what is given away and got back at its two ends, the handshake, and the body's specification. -/
module

public import proofs.«01_k».proof.Proof.Steps

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (qf : Dev nD → qM.view.ty.Contents (Elt F)) (own : Own F) (K : GSem nD τ sig → ℕ)

/-- A conjunction of pairs is a pair of conjunctions. -/
theorem sep2 {I : Type} (s : Finset I) (Φ Ψ : I → sProp 𝕄) : bigSep s (fun i => iprop(Φ i ∗ Ψ i)) = iprop(bigSep s Φ ∗ bigSep s Ψ) :=
  BI.bigSep_sep s Φ Ψ
/-- A conjunction over pairs, by the first part: over the transfers, by ring. -/
theorem byRing {Y : Type} [Fintype Y] (Φ : Fin 2 × Y → sProp 𝕄) :
    bigSep Finset.univ Φ = iprop(bigSep Finset.univ (fun y : Y => Φ (0, y)) ∗ bigSep Finset.univ (fun y : Y => Φ (1, y))) := by
  rw [BI.bigSep_univ_prod, BI.bigSep_fin_two]; rfl
/-- A conjunction over the transfers' indices, the first apart. -/
theorem byIdx (Φ : Fin 7 → sProp 𝕄) :
    bigSep Finset.univ Φ = iprop(Φ 0 ∗ Φ 1 ∗ Φ 2 ∗ Φ 3 ∗ Φ 4 ∗ Φ 5 ∗ Φ 6) := by
  rw [take (Finset.mem_univ (0 : Fin 7)), take (i := (1 : Fin 7)) (by decide), take (i := (2 : Fin 7)) (by decide), take (i := (3 : Fin 7)) (by decide),
    take (i := (4 : Fin 7)) (by decide), take (i := (5 : Fin 7)) (by decide), take (i := (6 : Fin 7)) (by decide),
    show (((((((Finset.univ : Finset (Fin 7)).erase 0).erase 1).erase 2).erase 3).erase 4).erase 5).erase 6 = ∅ by decide, BI.bigSep_empty]
  have h1 : iprop(Φ 0 ∗ Φ 1 ∗ Φ 2 ∗ Φ 3 ∗ Φ 4 ∗ Φ 5 ∗ Φ 6 ∗ emp) ⊢ iprop(Φ 0 ∗ Φ 1 ∗ Φ 2 ∗ Φ 3 ∗ Φ 4 ∗ Φ 5 ∗ Φ 6) := by
    iintro ⟨H0, H1, H2, H3, H4, H5, H6, -⟩; iframe H0 H1 H2 H3 H4 H5 H6
  have h2 : iprop(Φ 0 ∗ Φ 1 ∗ Φ 2 ∗ Φ 3 ∗ Φ 4 ∗ Φ 5 ∗ Φ 6) ⊢ iprop(Φ 0 ∗ Φ 1 ∗ Φ 2 ∗ Φ 3 ∗ Φ 4 ∗ Φ 5 ∗ Φ 6 ∗ emp) := by
    iintro ⟨H0, H1, H2, H3, H4, H5, H6⟩; iframe H0 H1 H2 H3 H4 H5 H6
  exact Entails.antisymm h1 h2

/-! ## The device's own keys and values, lent by half -/

/-- A half's elements. -/
theorem half_set (kv d : Fin 2) : (halfM kv d).view.set
    = (ownM kv).view.setOn (Rect.unit (s := S16x64x512) ![8 * d.val, 0, 0] S8x64x512.size (inb_half d)).set := by
  show ((ownM kv).view.slice _).set = _
  rw [View.set_slice]; rfl
/-- A half's elements, as elements of its buffer on device `c`. -/
abbrev halfS (c : Dev nD) (kv d : Fin 2) : Finset (Idx ((ownM kv).view.loc (c : Thread nD τ))) := (halfM kv d).view.set
/-- The halves are apart. -/
theorem half_disj (c : Dev nD) (kv : Fin 2) : halfS c kv 1 ⊆ Finset.univ \ halfS c kv 0 := by
  unfold halfS
  refine Finset.subset_sdiff.mpr ⟨Finset.subset_univ _, ?_⟩
  rw [half_set, half_set]
  refine (Finset.disjoint_map _).mpr ?_
  rw [Finset.disjoint_left]
  intro i hi hi'
  have h1 : 8 ≤ (i 0).val ∧ _ := (Rect.mem_set_unit.mp hi) 0
  have h2 : _ ∧ (i 0).val < 0 + 8 := (Rect.mem_set_unit.mp hi') 0
  omega

/-- What of the lent share no ring carries. -/
def ownRest (c : Dev nD) (kv : Fin 2) : sProp 𝕄 :=
  (ownM kv).view.loc (c : Thread nD τ) ↦[(Finset.univ \ halfS c kv 0) \ halfS c kv 1]{fullShare.left} own c kv

/-- Own keys or values: a share kept to read, a share lent by halves. -/
theorem own_split (c : Dev nD) (kv : Fin 2) : ownPts c kv fullShare (own c kv)
    = iprop(ownPts c kv fullShare.right (own c kv)
      ∗ srcPts c 0 kv 0 fullShare.left (srcB own c 0 kv 0) ∗ srcPts c 1 kv 0 fullShare.left (srcB own c 1 kv 0) ∗ ownRest own c kv) := by
  have h1 := (pointsTo_share (Lvl := ℕ) (Name := ℕ) (U := UU) (Ix := Unit) (ℓ := (ownM kv).view.loc (c : Thread nD τ)) (I := Finset.univ) (f := own c kv) (PosShare.mem_left_op_right fullShare))
  have h2 := (pointsTo_split_subset (Lvl := ℕ) (Name := ℕ) (U := UU) (Ix := Unit) (ℓ := (ownM kv).view.loc (c : Thread nD τ)) (q := fullShare.left) (f := own c kv)
    (Finset.subset_univ (halfS c kv 0)))
  have h3 := (pointsTo_split_subset (Lvl := ℕ) (Name := ℕ) (U := UU) (Ix := Unit) (ℓ := (ownM kv).view.loc (c : Thread nD τ)) (q := fullShare.left) (f := own c kv) (half_disj c kv))
  have g1 : ownPts c kv fullShare (own c kv) ⊢ iprop(ownPts c kv fullShare.right (own c kv)
      ∗ srcPts c 0 kv 0 fullShare.left (srcB own c 0 kv 0) ∗ srcPts c 1 kv 0 fullShare.left (srcB own c 1 kv 0) ∗ ownRest own c kv) := by
    iintro H
    ihave H := h1.1 $$ H
    icases H with ⟨Hl, Hr⟩
    ihave H := h2.1 $$ Hl
    icases H with ⟨H0, H⟩
    ihave H := h3.1 $$ H
    icases H with ⟨H1, H⟩
    isplitl [Hr]; · iexact Hr
    isplitl [H0]; · iexact H0
    isplitl [H1]; · iexact H1
    unfold ownRest; iexact H
  have g2 : iprop(ownPts c kv fullShare.right (own c kv)
      ∗ srcPts c 0 kv 0 fullShare.left (srcB own c 0 kv 0) ∗ srcPts c 1 kv 0 fullShare.left (srcB own c 1 kv 0) ∗ ownRest own c kv) ⊢ ownPts c kv fullShare (own c kv) := by
    iintro ⟨Hr, H0, H1, H⟩
    iapply h1.2
    isplitr [Hr]
    · iapply h2.2
      isplitl [H0]; · iexact H0
      iapply h3.2
      isplitl [H1]; · iexact H1
      unfold ownRest; iexact H
    iexact Hr
  exact Entails.antisymm g1 g2

/-! ## The receive buffers, by slot -/

/-- All of a ring buffer. -/
abbrev bufPts (c : Dev nD) (d : Fin 2) (f : (bufM d).view.ty.Contents (Elt F)) : sProp 𝕄 :=
  (bufM d).view.loc (c : Thread nD τ) ↦[Finset.univ]{fullShare} f

/-- The slots that are received into are apart. -/
theorem slot_disj (d : Fin 2) (y y' : Fin 2 × Fin 7) (h : y ≠ y') :
    Disjoint (slotM d y.2.succ y.1).view.set (slotM d y'.2.succ y'.1).view.set := by
  rw [slot_set, slot_set]
  refine (Finset.disjoint_map _).mpr ?_
  rw [Finset.disjoint_left]
  intro i hi hi'
  have h1 : y.2.val + 1 ≤ (i 0).val ∧ (i 0).val < y.2.val + 1 + 1 := (Rect.mem_set_unit.mp hi) 0
  have h2 : y.1.val ≤ (i 1).val ∧ (i 1).val < y.1.val + 1 := (Rect.mem_set_unit.mp hi) 1
  have h3 : y'.2.val + 1 ≤ (i 0).val ∧ (i 0).val < y'.2.val + 1 + 1 := (Rect.mem_set_unit.mp hi') 0
  have h4 : y'.1.val ≤ (i 1).val ∧ (i 1).val < y'.1.val + 1 := (Rect.mem_set_unit.mp hi') 1
  exact h (Prod.ext (Fin.ext (by omega)) (Fin.ext (by omega)))

/-- All that is received into. -/
def slotsU (c : Dev nD) (d : Fin 2) : Finset (Idx ((bufM d).view.loc (c : Thread nD τ))) :=
  Finset.univ.biUnion fun y : Fin 2 × Fin 7 => (slotM d y.2.succ y.1).view.set
/-- The rest of a receive buffer. -/
def bufRest (c : Dev nD) (d : Fin 2) : sProp 𝕄 :=
  iprop(∃ f, (bufM d).view.loc (c : Thread nD τ) ↦[Finset.univ \ slotsU c d]{fullShare} f)

/-- Ring `d`'s slots on device `c`, at anything. -/
def slotsD (c : Dev nD) (d : Fin 2) : sProp 𝕄 := bigSep Finset.univ fun y : Fin 2 × Fin 7 => iprop(∃ f, slotPts c d y.2.succ y.1 fullShare f)

/-- All the received slots at one content are the elements received into. -/
theorem slots_eq (c : Dev nD) (d : Fin 2) (f : (bufM d).view.ty.Contents (Elt F)) :
    ((bufM d).view.loc (c : Thread nD τ) ↦[slotsU c d]{fullShare} f : sProp 𝕄)
      = bigSep Finset.univ fun y : Fin 2 × Fin 7 => slotPts c d y.2.succ y.1 fullShare f :=
  pointsTo_biUnion (ℓ := (bufM d).view.loc (c : Thread nD τ)) Finset.univ (fun y : Fin 2 × Fin 7 => (slotM d y.2.succ y.1).view.set)
    (fun y _ y' _ h => slot_disj d y y' h)

/-- A receive buffer is its slots and the rest. -/
theorem buf_split (c : Dev nD) (d : Fin 2) (f : (bufM d).view.ty.Contents (Elt F)) :
    bufPts c d f ⊢ iprop(slotsD (F := F) c d ∗ bufRest (F := F) c d) := by
  have h := (pointsTo_split_subset (Lvl := ℕ) (Name := ℕ) (U := UU) (Ix := Unit) (ℓ := (bufM d).view.loc (c : Thread nD τ)) (q := fullShare) (f := f)
    (Finset.subset_univ (slotsU c d)))
  have h1 : ∀ y : Fin 2 × Fin 7, (slotPts c d y.2.succ y.1 fullShare f : sProp 𝕄) ⊢ iprop(∃ f, slotPts c d y.2.succ y.1 fullShare f) := fun y => by
    iintro H; iexists f; iexact H
  have hm : bigSep Finset.univ (fun y : Fin 2 × Fin 7 => (slotPts c d y.2.succ y.1 fullShare f : sProp 𝕄))
      ⊢ bigSep Finset.univ fun y : Fin 2 × Fin 7 => iprop(∃ f, slotPts c d y.2.succ y.1 fullShare f) := bigSep_mono fun y _ => h1 y
  iintro H
  ihave H := h.1 $$ H
  icases H with ⟨Hs, Hr⟩
  ihave Hs := (Entails.of_eq (slots_eq c d f)) $$ Hs
  isplitl [Hs]
  · unfold slotsD
    iapply hm; iexact Hs
  · unfold bufRest; iexists f; iexact Hr

/-- The slots, all received, and the rest are the receive buffer. -/
theorem buf_join (c : Dev nD) (d : Fin 2) :
    iprop(bigSep Finset.univ (fun y : Fin 2 × Fin 7 => slotPts c d y.2.succ y.1 fullShare (gath own c d)) ∗ bufRest (F := F) c d)
      ⊢ iprop(∃ f, bufPts (F := F) c d f) := by
  unfold bufRest
  iintro ⟨Hs, ⟨%f, Hr⟩⟩
  ihave Hs := (Entails.of_eq (slots_eq c d (gath own c d)).symm) $$ Hs
  iexists _
  iapply (pointsTo_join_subset (ℓ := (bufM d).view.loc (c : Thread nD τ)) (Finset.subset_univ (slotsU c d)))
  isplitl [Hs] <;> iassumption

/-- One ring's keys or values: what the waits kept and what the sends gave back. -/
theorem back (c : Dev nD) (d kv : Fin 2) :
    iprop(bigSep Finset.univ (fun i : Fin 7 => slotPts c d i.succ kv (keep i) (gath own c d))
        ∗ bigSep Finset.univ (fun i : Fin 7 => sendPay own c (d, kv, i)))
      ⊢ iprop(bigSep Finset.univ (fun i : Fin 7 => slotPts c d i.succ kv fullShare (gath own c d)) ∗ srcPts c d kv 0 fullShare.left (srcB own c d kv 0)) := by
  have hj : ∀ t, iprop(slotPts c d t kv fullShare.left (gath own c d) ∗ slotPts c d t kv fullShare.right (gath own c d))
      ⊢ slotPts c d t kv fullShare (gath own c d) := fun t => (pointsTo_share (PosShare.mem_left_op_right fullShare)).2
  rw [byIdx, byIdx, byIdx]
  have k6 : keep 6 = fullShare := rfl
  have k0 : ∀ i : Fin 7, i ≠ 6 → keep i = fullShare.right := fun i h => if_neg h
  rw [k6, k0 0 (by decide), k0 1 (by decide), k0 2 (by decide), k0 3 (by decide), k0 4 (by decide), k0 5 (by decide)]
  rw [show sendPay own c (d, kv, 1) = slotPts c d (0 : Fin 7).succ kv fullShare.left (gath own c d) from rfl,
    show sendPay own c (d, kv, 2) = slotPts c d (1 : Fin 7).succ kv fullShare.left (gath own c d) from rfl,
    show sendPay own c (d, kv, 3) = slotPts c d (2 : Fin 7).succ kv fullShare.left (gath own c d) from rfl,
    show sendPay own c (d, kv, 4) = slotPts c d (3 : Fin 7).succ kv fullShare.left (gath own c d) from rfl,
    show sendPay own c (d, kv, 5) = slotPts c d (4 : Fin 7).succ kv fullShare.left (gath own c d) from rfl,
    show sendPay own c (d, kv, 6) = slotPts c d (5 : Fin 7).succ kv fullShare.left (gath own c d) from rfl,
    show sendPay own c (d, kv, 0) = srcPts c d kv 0 fullShare.left (srcB own c d kv 0) from rfl]
  iintro ⟨⟨K0, K1, K2, K3, K4, K5, K6⟩, S0, S1, S2, S3, S4, S5, S6⟩
  isplitr [S0]
  · isplitl [K0 S1]; · iapply (hj (0 : Fin 7).succ); isplitl [S1]; · iexact S1
                       iexact K0
    isplitl [K1 S2]; · iapply (hj (1 : Fin 7).succ); isplitl [S2]; · iexact S2
                       iexact K1
    isplitl [K2 S3]; · iapply (hj (2 : Fin 7).succ); isplitl [S3]; · iexact S3
                       iexact K2
    isplitl [K3 S4]; · iapply (hj (3 : Fin 7).succ); isplitl [S4]; · iexact S4
                       iexact K3
    isplitl [K4 S5]; · iapply (hj (4 : Fin 7).succ); isplitl [S5]; · iexact S5
                       iexact K4
    isplitl [K5 S6]; · iapply (hj (5 : Fin 7).succ); isplitl [S6]; · iexact S6
                       iexact K5
    iexact K6
  iexact S0

/-- A whole ring: its slots and the two halves it was sent. -/
theorem backRing (c : Dev nD) (d : Fin 2) :
    iprop(bigSep Finset.univ (fun y : Fin 2 × Fin 7 => slotPts c d y.2.succ y.1 (keep y.2) (gath own c d))
        ∗ bigSep Finset.univ (fun y : Fin 2 × Fin 7 => sendPay own c (d, y)))
      ⊢ iprop(bigSep Finset.univ (fun y : Fin 2 × Fin 7 => slotPts c d y.2.succ y.1 fullShare (gath own c d))
        ∗ srcPts c d 0 0 fullShare.left (srcB own c d 0 0) ∗ srcPts c d 1 0 fullShare.left (srcB own c d 1 0)) := by
  rw [byRing, byRing, byRing]
  iintro ⟨⟨K0, K1⟩, S0, S1⟩
  ihave H0 := (back own c d 0) $$ [K0 S0]
  · isplitl [K0] <;> iassumption
  ihave H1 := (back own c d 1) $$ [K1 S1]
  · isplitl [K1] <;> iassumption
  icases H0 with ⟨A0, B0⟩
  icases H1 with ⟨A1, B1⟩
  isplitl [A0 A1]; · isplitl [A0] <;> iassumption
  isplitl [B0] <;> iassumption

/-! ## The handshake -/

/-- All the barriers' invariants. -/
def invB : sProp 𝕄 := bigSep Finset.univ fun c : Dev nD => cellInv ER (rd own) (K (barCell c)) (barCell c)
/-- The invariants can be used again. -/
instance invB_persistent : BI.Persistent (invB own K) := by unfold invB; infer_instance
/-- One of them. -/
theorem invB_at (c : Dev nD) : invB own K ⊢ cellInv ER (rd own) (K (barCell c)) (barCell c) :=
  bigSep_elim (Φ := fun c : Dev nD => (cellInv ER (rd own) (K (barCell c)) (barCell c) : sProp 𝕄)) (Finset.mem_univ c)
/-- All the barriers are at their first round. -/
def rchB : sProp 𝕄 := bigSep Finset.univ fun c : Dev nD => reached ER (barCell c) 0
/-- So can the rounds reached. -/
instance rchB_persistent : BI.Persistent (rchB (F := F)) := by unfold rchB; infer_instance
/-- One of them. -/
theorem rchB_at (c : Dev nD) : rchB (F := F) ⊢ reached ER (barCell c) 0 :=
  bigSep_elim (Φ := fun c : Dev nD => (reached ER (barCell c) 0 : sProp 𝕄)) (Finset.mem_univ c)
/-- Ring `d`'s receive cells on device `c` are at their first round. -/
def rchD (c : Dev nD) (d : Fin 2) : sProp 𝕄 := bigSep Finset.univ fun y : Fin 2 × Fin 7 => reached ER (recvCell c (d, y)) 0

/-- What device `c` hands over to the neighbour that fills ring `0`'s buffer. -/
theorem barPay_0 (c : Dev nD) : barPay (F := F) (toDev c 1) 0 = iprop(slotsD c 0 ∗ rchD c 0) := by
  unfold barPay slotsD rchD; rw [show toDev (toDev c 1) 0 = c from toDev_toDev' c 0]
/-- The same for ring `1`'s. -/
theorem barPay_1 (c : Dev nD) : barPay (F := F) (toDev c 0) 1 = iprop(slotsD c 1 ∗ rchD c 1) := by
  unfold barPay slotsD rchD; rw [show toDev (toDev c 0) 1 = c from toDev_toDev' c 1]

/-- What the barrier brings is what every send needs at the neighbour. -/
theorem bar_sendL (c : Dev nD) : iprop(barPay (F := F) c 0 ∗ barPay (F := F) c 1) = bigSep Finset.univ (SendL (F := F) c) := by
  rw [byRing]
  unfold barPay SendL
  rw [sep2, sep2]

/-- What the handshake needs. -/
def Hs (c : Dev nD) : sProp 𝕄 :=
  iprop(atPos ER (barCell c) 0 ∅ 0 ∗ cred (tallyAt (barCell c) () 2) ∗ dutyTok ER (barCell (toDev c 1)) 0 0 ∗ dutyTok ER (barCell (toDev c 0)) 0 1
    ∗ bigSep Finset.univ (SendG (F := F) c) ∗ rchD c 0 ∗ rchD c 1)

/-- The handshake: the device's slots go to the neighbours that fill them, theirs come. -/
theorem handshake_spec (c : Dev nD) (Kt : Dev nD → sProp 𝕄) :
    iprop(invB own K ∗ levAts L lv ∗ rchB (F := F) ∗ ((∃ W, owes (c : Thread nD τ) (O₀ c) W) ∗ Hs (F := F) c ∗ slotsD (F := F) c 0 ∗ slotsD (F := F) c 1)
        ∗ (((∃ W, owes (c : Thread nD τ) (O Finset.univ c) W) ∗ semVal (barCell c) 0 ∗ bigSep Finset.univ (SendTk (F := F) c)) -∗ Kt c))
      ⊢ wpc c handshake Kt := by
  have e1 : ∀ c : Dev nD, (⟨k0_dev1 c, k0_dev1_lt c⟩ : Dev nD) = toDev c 1 := by decide
  have e2 : ∀ c : Dev nD, (⟨k0_dev2 c, k0_dev2_lt c⟩ : Dev nD) = toDev c 0 := by decide
  have hsem : ((SemArray.scalar (sig.barrier 0 rfl)) : Sems sig S_).sem = barS := rfl
  unfold handshake Hs
  simp only [semSignalWord, semWaitWord, Prog.lift, Prog.bind_op, Prog.bind_ret, Prog.pure_eq_ret, wp_deviceId, e1, e2, hsem]
  iintro ⟨#HI, #Hlev, #Hrb, ⟨⟨%W, HO⟩, ⟨Hat, Hc, Ht1, Ht0, HG, Hr0, Hr1⟩, Hs0, Hs1⟩, Hk⟩
  ihave #HI0 := (invB_at own K (toDev c 0)) $$ HI
  ihave #HI1 := (invB_at own K (toDev c 1)) $$ HI
  ihave #HIc := (invB_at own K c) $$ HI
  ihave #Hb0 := (rchB_at (toDev c 0)) $$ Hrb
  ihave #Hb1 := (rchB_at (toDev c 1)) $$ Hrb
  iapply (Rounds.wp_signal 𝒱₀ ER (rd own) (c : Thread nD τ) none (dst := (toDev c 1 : Thread nD τ)) (κ := K (barCell (toDev c 1)))
      (d := 0) (by rw [duties_bar]; exact Finset.mem_univ _) ((amount_bar own (toDev c 1) 0).trans (by decide)) ()
      (O Finset.univ c + tallyAt (barCell (toDev c 0)) () 1) rfl) $$ [HO Ht1 Hs0 Hr0]
  · isplitr; · iexact HI1
    isplitl [HO]; · iexact HO
    isplitl [Ht1]; · iexact Ht1
    isplitl [Hs0 Hr0]
    · rw [payload_bar, barPay_0]; isplitl [Hs0] <;> iassumption
    iexact Hb1
  iintro HO
  iapply (Rounds.wp_signal 𝒱₀ ER (rd own) (c : Thread nD τ) none (dst := (toDev c 0 : Thread nD τ)) (κ := K (barCell (toDev c 0)))
      (d := 1) (by rw [duties_bar]; exact Finset.mem_univ _) ((amount_bar own (toDev c 0) 1).trans (by decide)) () (O Finset.univ c) rfl)
    $$ [HO Ht0 Hs1 Hr1]
  · isplitr; · iexact HI0
    isplitl [HO]; · iexact HO
    isplitl [Ht0]; · iexact Ht0
    isplitl [Hs1 Hr1]
    · rw [payload_bar, barPay_1]; isplitl [Hs1] <;> iassumption
    iexact Hb0
  iintro HO
  iapply (Rounds.wp_wait_rest_token 𝒱₀ ER (rd own) (c : Thread nD τ) none (κ := K (barCell c))
      (wpE_semWait_eq 𝒱₀ (c : Thread nD τ) none Set.univ) (Set.mem_univ _) () (O := O Finset.univ c) (W := W) (R := 0) (m := 0) (T := ∅)
      (by rw [expect_bar]; decide)) $$ [Hc HO Hat]
  · isplitr; · iexact HIc
    isplitl [Hc]; · iexact Hc
    isplitl [HO]; · iexact HO
    isplitr; · iapply (mayWait_bar c); iexact Hlev
    iexact Hat
  iintro ⟨HO, Hat, -, Hpay⟩
  ihave Hp := (Entails.of_eq ((rest_bar own c).trans (bar_sendL c))) $$ Hpay
  rw [wp_ret]
  imod (close own (K (barCell c)) (barCell c)) $$ [Hat] with Hv
  · isplitr; · iexact HIc
    iexact Hat
  imodintro
  iapply Hk
  isplitl [HO]; · iexists _; iexact HO
  isplitl [Hv]; · iexact Hv
  unfold SendTk
  rw [sep2]
  isplitl [HG] <;> iassumption

/-! ## The body -/

/-- What the launch gives the body on device `c`. -/
def bodyPre (c : Dev nD) : sProp 𝕄 :=
  iprop((∃ W, owes (c : Thread nD τ) (O₀ c) W) ∗ Hs (F := F) c ∗ bigSep Finset.univ (RecvTk (F := F) c)
    ∗ (∃ f, bufPts (F := F) c 0 f) ∗ (∃ f, bufPts (F := F) c 1 f) ∗ (∃ f, denPts (F := F) c f) ∗ (∃ f, outPts (F := F) c f)
    ∗ qPts c (qf c) ∗ ownPts c 0 fullShare (own c 0) ∗ ownPts c 1 fullShare (own c 1))

/-- What the body gives back: its inputs, its result, the scratch and every semaphore at zero. -/
def bodyPost (c : Dev nD) : sProp 𝕄 :=
  iprop((∃ W, owes (c : Thread nD τ) (0 : CellTallies nD τ sig Unit) W) ∗ semVal (barCell c) 0
    ∗ (bigSep Finset.univ (fun k : Fin 2 × X => semVal (cell k.1 c k.2) 0))
    ∗ (∃ f, bufPts (F := F) c 0 f) ∗ (∃ f, bufPts (F := F) c 1 f) ∗ (∃ f, denPts (F := F) c f) ∗ outPts c (outV qf own c)
    ∗ qPts c (qf c) ∗ ownPts c 0 fullShare (own c 0) ∗ ownPts c 1 fullShare (own c 1))

/-- The state after the handshake is the rings' at the start. -/
theorem St_zero (c : Dev nD) :
    iprop((∃ W, owes (c : Thread nD τ) (O Finset.univ c) W) ∗ bigSep Finset.univ (SendTk (F := F) c) ∗ bigSep Finset.univ (RecvTk (F := F) c))
      ⊢ St own c (aft 0) (aft 0) := by
  rw [aft_zero]
  unfold St
  rw [Finset.compl_univ, BI.bigSep_empty, BI.bigSep_empty]
  iintro ⟨HO, HS, HR⟩
  isplitl [HO]; · iexact HO
  isplitl [HS]; · iexact HS
  isplitr; · iempintro
  isplitl [HR]; · iexact HR
  iempintro

/-- The rings' state at the end: everything received, everything pending. -/
theorem St_end (c : Dev nD) : St own c ∅ ∅ ⊢ iprop(Dr own c Finset.univ ∗ bigSep Finset.univ (RecvDone own c)) := by
  unfold St Dr
  rw [Finset.compl_empty, Finset.compl_univ, BI.bigSep_empty, BI.bigSep_empty, BI.bigSep_empty, show O ∅ c = 0 from Finset.sum_empty]
  iintro ⟨HO, -, HP, -, HR⟩
  isplitr [HR]
  · isplitl [HO]; · iexact HO
    isplitl [HP]; · iexact HP
    iempintro
  iexact HR

/-- All the transfers' waits done. -/
theorem strip_all : strip (strip (strip (strip Finset.univ 0 0) 0 1) 1 0) 1 1 = ∅ := by decide

/-- The two sides of the transfers' semaphores, as one family. -/
theorem sems_all (c : Dev nD) :
    bigSep Finset.univ (fun k : Fin 2 × X => (semVal (cell k.1 c k.2) 0 : sProp 𝕄))
      = iprop(bigSep Finset.univ (fun x : X => semVal (sendCell c x) 0) ∗ bigSep Finset.univ (fun x : X => semVal (recvCell c x) 0)) := by
  rw [BI.bigSep_univ_prod, BI.bigSep_fin_two]; rfl

/-- What device `c` keeps of a received slot. -/
def keepPts (c : Dev nD) (x : X) : sProp 𝕄 := slotPts c x.1 x.2.2.succ x.2.1 (keep x.2.2) (gath own c x.1)
/-- All the received slots and their semaphores, by ring. -/
theorem recvDone_all (c : Dev nD) : bigSep Finset.univ (RecvDone own c)
    = iprop(bigSep Finset.univ (fun x : X => semVal (recvCell c x) 0)
      ∗ bigSep Finset.univ (fun y : Fin 2 × Fin 7 => slotPts c 0 y.2.succ y.1 (keep y.2) (gath own c 0))
      ∗ bigSep Finset.univ (fun y : Fin 2 × Fin 7 => slotPts c 1 y.2.succ y.1 (keep y.2) (gath own c 1))) := by
  rw [show RecvDone own c = fun x => iprop(semVal (recvCell c x) 0 ∗ keepPts own c x) from rfl, sep2, byRing (keepPts own c)]
  rfl

/-- What is held after the last wait, put together. -/
theorem finish (c : Dev nD) :
    iprop(Dr own c ∅ ∗ bigSep Finset.univ (RecvDone own c) ∗ bufRest (F := F) c 0 ∗ bufRest (F := F) c 1
        ∗ (ownPts c 0 fullShare.right (own c 0) ∗ ownRest own c 0) ∗ (ownPts c 1 fullShare.right (own c 1) ∗ ownRest own c 1))
      ⊢ iprop((∃ W, owes (c : Thread nD τ) (0 : CellTallies nD τ sig Unit) W)
        ∗ (bigSep Finset.univ (fun k : Fin 2 × X => semVal (cell k.1 c k.2) 0))
        ∗ (∃ f, bufPts (F := F) c 0 f) ∗ (∃ f, bufPts (F := F) c 1 f) ∗ ownPts c 0 fullShare (own c 0) ∗ ownPts c 1 fullShare (own c 1)) := by
  rw [recvDone_all]
  unfold Dr SendDone
  rw [BI.bigSep_empty, Finset.compl_empty, sep2, sems_all, own_split own c 0, own_split own c 1,
    byRing (fun x => sendPay own c x)]
  iintro ⟨⟨HO, -, Hvs, S0, S1⟩, ⟨Hvr, R0, R1⟩, B0, B1, ⟨A0, C0⟩, A1, C1⟩
  ihave H0 := (backRing own c 0) $$ [R0 S0]
  · isplitl [R0] <;> iassumption
  ihave H1 := (backRing own c 1) $$ [R1 S1]
  · isplitl [R1] <;> iassumption
  icases H0 with ⟨T0, P00, P01⟩
  icases H1 with ⟨T1, P10, P11⟩
  isplitl [HO]; · iexact HO
  isplitl [Hvs Hvr]; · isplitl [Hvs] <;> iassumption
  isplitl [T0 B0]
  · iapply (buf_join own c 0); isplitl [T0] <;> iassumption
  isplitl [T1 B1]
  · iapply (buf_join own c 1); isplitl [T1] <;> iassumption
  isplitl [A0 P00 P10 C0]
  · isplitl [A0]; · iexact A0
    isplitl [P00]; · iexact P00
    isplitl [P10] <;> iassumption
  · isplitl [A1]; · iexact A1
    isplitl [P01]; · iexact P01
    isplitl [P11] <;> iassumption

set_option maxHeartbeats 1000000 in
/-- The body: from the launch's state to its result. -/
theorem body_spec (c : Dev nD) (Kt : PUnit → sProp 𝕄) :
    iprop(invB own K ∗ invX own K ∗ levAts L lv ∗ rchB (F := F) ∗ bodyPre qf own c ∗ (bodyPost qf own c -∗ Kt ⟨⟩)) ⊢ wpc c body Kt := by
  unfold body bodyPre bodyPost
  simp only [wp_bind]
  iintro ⟨#HB, #HX, #Hlev, #Hrb, ⟨HO, Hh, HR, ⟨%f0, B0⟩, ⟨%f1, B1⟩, ⟨%fd, Hd⟩, ⟨%fo, Ho⟩, Hq, H0, H1⟩, Hk⟩
  ihave B0 := (buf_split c 0 f0) $$ B0
  ihave B1 := (buf_split c 1 f1) $$ B1
  icases B0 with ⟨S0, E0⟩
  icases B1 with ⟨S1, E1⟩
  ihave H0 := (Entails.of_eq (own_split own c 0)) $$ H0
  ihave H1 := (Entails.of_eq (own_split own c 1)) $$ H1
  icases H0 with ⟨A0, P00, P10, C0⟩
  icases H1 with ⟨A1, P01, P11, C1⟩
  iapply (handshake_spec own K c _)
  isplitr; · iexact HB
  isplitr; · iexact Hlev
  isplitr; · iexact Hrb
  isplitl [HO Hh S0 S1]
  · isplitl [HO]; · iexact HO
    isplitl [Hh]; · iexact Hh
    isplitl [S0] <;> iassumption
  iintro ⟨HO, Hv, HS⟩
  ihave HSt := (St_zero own c) $$ [HO HS HR]
  · isplitl [HO]; · iexact HO
    isplitl [HS] <;> iassumption
  iapply (stepFirst_spec qf own K c (fun g => readDen g fd) (fun g => readOut g fo) _)
  isplitr; · iexact HX
  isplitl [HSt P00 P10 P01 P11 Hq A0 A1 Hd Ho]
  · isplitl [HSt]; · iexact HSt
    isplitl [P00 P10 P01 P11]
    · isplitl [P00]; · iexact P00
      isplitl [P10]; · iexact P10
      isplitl [P01] <;> iassumption
    isplitl [Hq]; · iexact Hq
    isplitl [A0]; · iexact A0
    isplitl [A1]; · iexact A1
    unfold AccSt
    iexists fd, fo
    isplitr; · ipureintro; exact fun g => rfl
    isplitr; · ipureintro; exact fun g => rfl
    isplitl [Hd] <;> iassumption
  iintro ⟨HSt, Hq, A0, A1, HA⟩
  iapply (stepMid_spec qf own K c 0 _)
  isplitr; · iexact HX
  isplitr; · iexact Hlev
  isplitl [HSt Hq HA]
  · isplitl [HSt]; · iexact HSt
    isplitl [Hq]; · iexact Hq
    iexact HA
  iintro ⟨HSt, Hq, HA⟩
  iapply (stepMid_spec qf own K c 1 _)
  isplitr; · iexact HX
  isplitr; · iexact Hlev
  isplitl [HSt Hq HA]
  · isplitl [HSt]; · iexact HSt
    isplitl [Hq]; · iexact Hq
    iexact HA
  iintro ⟨HSt, Hq, HA⟩
  iapply (stepMid_spec qf own K c 2 _)
  isplitr; · iexact HX
  isplitr; · iexact Hlev
  isplitl [HSt Hq HA]
  · isplitl [HSt]; · iexact HSt
    isplitl [Hq]; · iexact Hq
    iexact HA
  iintro ⟨HSt, Hq, HA⟩
  iapply (stepMid_spec qf own K c 3 _)
  isplitr; · iexact HX
  isplitr; · iexact Hlev
  isplitl [HSt Hq HA]
  · isplitl [HSt]; · iexact HSt
    isplitl [Hq]; · iexact Hq
    iexact HA
  iintro ⟨HSt, Hq, HA⟩
  iapply (stepMid_spec qf own K c 4 _)
  isplitr; · iexact HX
  isplitr; · iexact Hlev
  isplitl [HSt Hq HA]
  · isplitl [HSt]; · iexact HSt
    isplitl [Hq]; · iexact Hq
    iexact HA
  iintro ⟨HSt, Hq, HA⟩
  iapply (stepMid_spec qf own K c 5 _)
  isplitr; · iexact HX
  isplitr; · iexact Hlev
  isplitl [HSt Hq HA]
  · isplitl [HSt]; · iexact HSt
    isplitl [Hq]; · iexact Hq
    iexact HA
  rw [show ((5 : Fin 6).val + 2) = 7 from rfl, aft_seven]
  iintro ⟨HSt, Hq, HA⟩
  iapply (stepLast_spec qf own K c _)
  isplitr; · iexact HX
  isplitr; · iexact Hlev
  isplitl [HSt Hq HA]
  · isplitl [HSt]; · iexact HSt
    isplitl [Hq]; · iexact Hq
    iexact HA
  iintro ⟨HSt, Hq, HA⟩
  ihave HSt := (St_end own c) $$ HSt
  icases HSt with ⟨HD, HRd⟩
  iapply (drain_spec own K c 0 0 Finset.univ (fun i => Finset.mem_univ _) _)
  isplitr; · iexact HX
  isplitl [HD]; · iexact HD
  iintro HD
  iapply (drain_spec own K c 0 1 (strip Finset.univ 0 0) (by decide) _)
  isplitr; · iexact HX
  isplitl [HD]; · iexact HD
  iintro HD
  iapply (drain_spec own K c 1 0 (strip (strip Finset.univ 0 0) 0 1) (by decide) _)
  isplitr; · iexact HX
  isplitl [HD]; · iexact HD
  iintro HD
  iapply (drain_spec own K c 1 1 (strip (strip (strip Finset.univ 0 0) 0 1) 1 0) (by decide) _)
  isplitr; · iexact HX
  isplitl [HD]; · iexact HD
  iintro HD
  ihave HD := (Entails.of_eq (congrArg (Dr own c) strip_all)) $$ HD
  ihave HF := (finish own c) $$ [HD HRd E0 E1 A0 C0 A1 C1]
  · isplitl [HD]; · iexact HD
    isplitl [HRd]; · iexact HRd
    isplitl [E0]; · iexact E0
    isplitl [E1]; · iexact E1
    isplitl [A0 C0]; · isplitl [A0] <;> iassumption
    isplitl [A1] <;> iassumption
  icases HF with ⟨HO, Hvx, B0, B1, A0, A1⟩
  unfold AccSt
  icases HA with ⟨%gd, %go, %hd, %ho, Hd, Ho⟩
  rw [out_eq qf own c go ho]
  iapply Hk
  isplitl [HO]; · iexact HO
  isplitl [Hv]; · iexact Hv
  isplitl [Hvx]; · iexact Hvx
  isplitl [B0]; · iexact B0
  isplitl [B1]; · iexact B1
  isplitl [Hd]; · iexists gd; iexact Hd
  isplitl [Ho]; · iexact Ho
  isplitl [Hq]; · iexact Hq
  isplitl [A0] <;> iassumption

end Cert.Attn

end
-- ==== Proof.Region.lean ====
/- The kernel as a region of the program: its proof data, its body obligation, and what it is entered and left with. -/
module

public import proofs.«01_k».proof.Proof.Body
public import proofs.«01_k».proof.Proof.Gen.KernelIdeal.Frame
public import Idealize.ShloMosaic.Lib.Pipeline.ValueKit
public import Idealize.ShloMosaic.Lib.Pipeline.RegionTalk

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The operands the region finds -/

/-- Each device's queries, as the region finds them. -/
def qOf (c : Dev nD) : qM.view.ty.Contents (Elt F) := V m c main_v2
/-- Each device's keys and values, as the region finds them. -/
def ownOf : Own F := fun c kv =>
  match kv with
  | 0 => V m c main_v4
  | 1 => V m c main_v6
/-- What the kernel leaves on each device. -/
def outOf (c : Dev nD) : S16x64x512.Idx → Elt F .f32 := outV (qOf m) (ownOf m) c

/-! ## What enters the region's one point and what leaves it -/

/-- The three scratch buffers, at contents not chosen. -/
def scr (c : Dev nD) : sProp 𝕄 :=
  iprop((∃ f, bufPts (F := F) c 0 f) ∗ (∃ f, bufPts (F := F) c 1 f) ∗ (∃ f, denPts (F := F) c f))

/-- The protocol's state once the region's semaphores are in. -/
def Xk (c : Dev nD) : sProp 𝕄 :=
  iprop(∃ K, invB (ownOf m) K ∗ invX (ownOf m) K ∗ levAts L lv ∗ rchB (F := F) ∗ Hs (F := F) c ∗ bigSep Finset.univ (RecvTk (F := F) c))
/-- The barrier at zero again. -/
def Yk (c : Dev nD) : sProp 𝕄 := semVal (barCell c) 0

/-- The region's proof data. -/
def dat0 (c : Dev nD) : Dat τ (Elt F) Unit ℕ UU ℕ cfg0 c where
  A w := V m c (Pipeline.arrRef spec0 w)
  after w t :=
    match w with
    | 0 => iblk m c 0 t
    | 1 => iblk m c 1 t
    | 2 => iblk m c 2 t
    | 3 => outOf m c
  Φ t := if t.val = 0 then iprop(Xk m c ∗ scr (F := F) c ∗ ∃ r, prngReg c r)
    else iprop(Yk (F := F) c ∗ Pipeline.ownSems0 osem c ∗ scr (F := F) c ∗ ∃ r, prngReg c r)
  q _ := fullShare
  owed t := if t.val = 0 then O₀ c else 0

/-- The region's tables are admissible. -/
abbrev adm : (p : Fin 1) → (pcfgs (F := F) p).Adm := fun p => (cfgs p).toPCfg_adm
/-- The same over the program's one region. -/
def pdats : (p : Fin 1) → (c : Dev nD) → Dat τ (Elt F) Unit ℕ UU ℕ (Pipeline.pin (pcfgs (F := F)) adm p) c
  | 0 => dat0 m

/-- Before the point the device owes what it owed at launch. -/
theorem owed_zero (c : Dev nD) : (pdats (F := F) m 0 c).owed 0 = O₀ c := by
  show (if ((0 : Fin (cfg0.N + 1)).val = 0) then O₀ c else 0) = O₀ c; exact if_pos rfl
/-- The same, read at the point. -/
theorem owed_first (c : Dev nD) : (dat0 (F := F) m c).owed t0_0.castSucc = O₀ c := by
  show (if (t0_0.castSucc : Fin (cfg0.N + 1)).val = 0 then O₀ c else 0) = O₀ c; exact if_pos rfl
/-- After it the device owes nothing. -/
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

/-- The library's record of what is owed, from ours. -/
theorem owesAt_in (c : Dev nD) (t : Fin (cfg0.N + 1)) (O : CellTallies nD τ sig Unit) (h : (dat0 m c).owed t = O) (W : Waits sig Unit) :
    (owes (c : Thread nD τ) O W : sProp 𝕄) ⊢ ((dat0 m c).owesAt () t : sProp 𝕄) := by
  unfold Dat.owesAt Pipeline.owesWithin Dat.bound
  rw [h, show (dat0 m c).recorded t = Set.univ from rfl]
  iintro HO; iexists W; isplitr; · ipureintro; exact fun _ _ => Or.inl trivial
  iexact HO
/-- Ours, from the library's. -/
theorem owesAt_out (c : Dev nD) (t : Fin (cfg0.N + 1)) (O : CellTallies nD τ sig Unit) (h : (dat0 m c).owed t = O) :
    ((dat0 m c).owesAt () t : sProp 𝕄) ⊢ iprop(∃ W, owes (c : Thread nD τ) O W) := by
  unfold Dat.owesAt Pipeline.owesWithin; rw [h]
  iintro ⟨%W, -, HO⟩; iexists W; iexact HO

/-! ## What the windows hold -/

/-- The queries' block is the whole array. -/
theorem blk_q (c : Dev nD) : iblk m c 0 t0_0 = qOf m c := by
  funext y
  show V m c main_v2 (((cfg0.win 0).blk t0_0).view.emb y) = V m c main_v2 y
  congr 1; funext a; apply Fin.ext; blk_simp
  rw [(by decide +kernel : ∀ a, win0_0.index t0_0 a = 0) a, Nat.zero_mul, Nat.zero_add]
/-- The keys' block is the whole array. -/
theorem blk_k (c : Dev nD) : iblk m c 1 t0_0 = ownOf m c 0 := by
  funext y
  show V m c main_v4 (((cfg0.win 1).blk t0_0).view.emb y) = V m c main_v4 y
  congr 1; funext a; apply Fin.ext; blk_simp
  rw [(by decide +kernel : ∀ a, win0_1.index t0_0 a = 0) a, Nat.zero_mul, Nat.zero_add]
/-- The values' block is the whole array. -/
theorem blk_v (c : Dev nD) : iblk m c 2 t0_0 = ownOf m c 1 := by
  funext y
  show V m c main_v6 (((cfg0.win 2).blk t0_0).view.emb y) = V m c main_v6 y
  congr 1; funext a; apply Fin.ext; blk_simp
  rw [(by decide +kernel : ∀ a, win0_2.index t0_0 a = 0) a, Nat.zero_mul, Nat.zero_add]

/-- The body finds the queries' block. -/
theorem before_q (c : Dev nD) (d) : (dat0 m c).before 0 t0_0 d = qOf m c :=
  ((dat0 m c).before_in_eq_fetched 0 rfl (fun _ => rfl) (fun _ _ _ => rfl) (fun t => rfl) t0_0 d).trans (blk_q m c)
/-- The body finds the keys' block. -/
theorem before_k (c : Dev nD) (d) : (dat0 m c).before 1 t0_0 d = ownOf m c 0 :=
  ((dat0 m c).before_in_eq_fetched 1 rfl (fun _ => rfl) (fun _ _ _ => rfl) (fun t => rfl) t0_0 d).trans (blk_k m c)
/-- The body finds the values' block. -/
theorem before_v (c : Dev nD) (d) : (dat0 m c).before 2 t0_0 d = ownOf m c 1 :=
  ((dat0 m c).before_in_eq_fetched 2 rfl (fun _ => rfl) (fun _ _ _ => rfl) (fun t => rfl) t0_0 d).trans (blk_v m c)

/-- The result array ends at what the kernel leaves. -/
theorem arr_out (c : Dev nD) : (dat0 m c).arrAt 3 cfg0.N = outOf m c := by
  refine (dat0 m c).arrAt_eq_of_after_last 3 t0_0 (by decide +kernel) _ fun j => ?_
  rfl

/-! ## The body obligation -/

/-- A staging buffer of device `c` at contents `X`, as the library states it. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

set_option maxRecDepth 16384 in
/-- The kernel's body at the region's one point. -/
theorem body0 (c : Dev nD) : BodyObligation (dat0 (F := F) m c) defs₀ 𝒱₀ () Set.univ := fun t => by
  rw [fin_N0 t]
  rw [bigSep_W0, bigSep_W0]
  simp only [owns_whole_eq]
  rw [show (dat0 m c).Φ t0_0.castSucc = iprop(Xk m c ∗ scr (F := F) c ∗ ∃ r, prngReg c r) from rfl,
    show (dat0 m c).Φ t0_0.succ = iprop(Yk (F := F) c ∗ Pipeline.ownSems0 osem c ∗ scr (F := F) c ∗ ∃ r, prngReg c r) from rfl]
  show iprop((Xk m c ∗ scr (F := F) c ∗ ∃ r, prngReg c r) ∗ (dat0 m c).owesAt () t0_0.castSucc
      ∗ (∃ d, stg c cc0_stg0_0 ((dat0 m c).before 0 t0_0 d)) ∗ (∃ d, stg c cc0_stg1_0 ((dat0 m c).before 1 t0_0 d))
      ∗ (∃ d, stg c cc0_stg2_0 ((dat0 m c).before 2 t0_0 d)) ∗ (∃ d, stg c cc0_stg3_0 ((dat0 m c).before 3 t0_0 d)))
    ⊢ wpc c (cc0_body (F := F) qM (Memref.isWhole_whole _) kM (Memref.isWhole_whole _) vM (Memref.isWhole_whole _) oM (Memref.isWhole_whole _)
        rM (Memref.isWhole_whole _) lM (Memref.isWhole_whole _) dM (Memref.isWhole_whole _)
        cc0_scratch3 cc0_scratch4 cc0_scratch5 cc0_scratch6 cc0_scratch7 cc0_scratch8 cc0_scratch9 cc0_scratch10)
      fun _ => iprop((Yk (F := F) c ∗ Pipeline.ownSems0 osem c ∗ scr (F := F) c ∗ ∃ r, prngReg c r) ∗ (dat0 m c).owesAt () t0_0.succ
        ∗ stg c cc0_stg0_0 (iblk m c 0 t0_0) ∗ stg c cc0_stg1_0 (iblk m c 1 t0_0) ∗ stg c cc0_stg2_0 (iblk m c 2 t0_0)
        ∗ stg c cc0_stg3_0 (outOf m c))
  rw [body_eq, blk_q, blk_k, blk_v]
  unfold Xk scr
  iintro ⟨⟨⟨%K, #HB, #HX, #Hlev, #Hrb, Hh, HR⟩, ⟨B0, B1, Bd⟩, Hp⟩, HO, ⟨%d0, %f0, %e0, Q⟩, ⟨%d1, %f1, %e1, K0⟩, ⟨%d2, %f2, %e2, K1⟩, ⟨%d3, %f3, %e3, Out⟩⟩
  rw [before_q] at e0
  rw [before_k] at e1
  rw [before_v] at e2
  subst e0 e1 e2
  ihave HO := (owesAt_out m c _ (O₀ c) (owed_first m c)) $$ HO
  iapply (body_spec (qOf m) (ownOf m) K c _)
  isplitr; · iexact HB
  isplitr; · iexact HX
  isplitr; · iexact Hlev
  isplitr; · iexact Hrb
  isplitr [Hp]
  · unfold bodyPre
    isplitl [HO]; · iexact HO
    isplitl [Hh]; · iexact Hh
    isplitl [HR]; · iexact HR
    isplitl [B0]; · iexact B0
    isplitl [B1]; · iexact B1
    isplitl [Bd]; · iexact Bd
    isplitl [Out]; · iexists f3; iexact Out
    isplitl [Q]; · iexact Q
    isplitl [K0]; · iexact K0
    iexact K1
  unfold bodyPost
  iintro ⟨⟨%W, HO⟩, Hb, Hs, B0, B1, Bd, Out, Q, K0, K1⟩
  isplitl [Hb Hs B0 B1 Bd Hp]
  · unfold Yk
    isplitl [Hb]; · iexact Hb
    isplitl [Hs]; · unfold Pipeline.ownSems0; iexact Hs
    isplitl [B0 B1 Bd]
    · isplitl [B0]; · iexact B0
      isplitl [B1] <;> iassumption
    iexact Hp
  isplitl [HO]; · iapply (owesAt_in m c t0_0.succ 0 (owed_last m c) W); iexact HO
  isplitl [Q]; · iexists _; isplitr; · (ipureintro; rfl)
                 iexact Q
  isplitl [K0]; · iexists _; isplitr; · (ipureintro; rfl)
                  iexact K0
  isplitl [K1]; · iexists _; isplitr; · (ipureintro; rfl)
                  iexact K1
  iexists _; isplitr; · (ipureintro; rfl)
  iexact Out

end Cert.Attn

end
-- ==== Proof.Run.lean ====
/- The launch: every cell's invariant allocated, the tokens dealt, the program run as its segments. -/
module

public import proofs.«01_k».proof.Proof.Region

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens at launch -/

/-- The barrier cells. -/
def barEmb : Dev nD ↪ GSem nD τ sig := ⟨fun c => barCell c, fun _ _ h => congrArg (fun g : GSem nD τ sig => g.1.1) h⟩
/-- The transfers' cells. -/
def scEmb : Dev nD × (Fin 2 × X) ↪ GSem nD τ sig :=
  ⟨fun p => cell p.2.1 p.1 p.2.2, fun _ _ h =>
    Prod.ext (congrArg (fun g : GSem nD τ sig => g.1.1) h) (osem_inj (congrArg Prod.snd h))⟩
/-- All barriers. -/
abbrev barCells : Finset (GSem nD τ sig) := Finset.univ.map barEmb
/-- All send and receive cells. -/
abbrev scCells : Finset (GSem nD τ sig) := Finset.univ.map scEmb

/-- The semaphore and the duty of a token. -/
def tokKey : Fin 2 ⊕ (Fin 2 × X) → SemLoc sig × Fin 2
  | .inl d => (.reg barS, d)
  | .inr k => (osem k, 0)
/-- Distinct tokens have distinct keys. -/
theorem tokKey_inj : Function.Injective tokKey := by
  rintro (a | a) (b | b) h
  · exact congrArg Sum.inl (congrArg Prod.snd h)
  · exact absurd (congrArg Prod.fst h).symm (osem_ne_bar b)
  · exact absurd (congrArg Prod.fst h) (osem_ne_bar a)
  · exact congrArg Sum.inr (osem_inj (congrArg Prod.fst h))
/-- The tokens: two at every barrier, one at every transfer's cell. -/
def tokEmb : Dev nD × (Fin 2 ⊕ (Fin 2 × X)) ↪ GSem nD τ sig × ℕ × Fin 2 :=
  ⟨fun p => (((p.1 : Thread nD τ), (tokKey p.2).1), 0, (tokKey p.2).2), fun _ _ h =>
    Prod.ext (congrArg (fun t : GSem nD τ sig × ℕ × Fin 2 => t.1.1.1) h)
      (tokKey_inj (Prod.ext (congrArg (fun t : GSem nD τ sig × ℕ × Fin 2 => t.1.2) h) (congrArg (fun t : GSem nD τ sig × ℕ × Fin 2 => t.2.2) h)))⟩
/-- All tokens of the protocol. -/
def talkToks : Finset (GSem nD τ sig × ℕ × Fin 2) := Finset.univ.map tokEmb

/-- No transfer's cell is a barrier. -/
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

/-- The staging cells are distinct. -/
theorem stg_inj : Function.Injective (Pipeline.cellOf (nD := nD) (τ := τ) (Pipeline.pin (pcfgs (F := F)) adm)) := cellOf_inj

/-- The launch element: the pipeline library's at the staging cells; the protocol's. -/
def u₀ : UU :=
  (initOf (Pipeline.cells (Pipeline.pin (pcfgs (F := F)) adm) stg_inj) (Pipeline.launchToks (Pipeline.pin (pcfgs (F := F)) adm) stg_inj),
    launchOf barCells scCells talkToks)

/-- A resource kept on device zero. -/
def onZero (P : sProp 𝕄) (c : Dev nD) : sProp 𝕄 := if c = 0 then P else iprop(emp)
/-- Over all devices it is the resource. -/
theorem bigSep_onZero (P : sProp 𝕄) : bigSep Finset.univ (onZero P) = P := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

/-- What is handed out at the launch. -/
def G : Dev nD → sProp 𝕄 := onZero (BI.own (ER (launchOf barCells scCells talkToks)))

/-! ## The records -/

/-- Two conjunctions over the same indices as one. -/
theorem together {I : Type} (s : Finset I) (Φ Ψ : I → sProp 𝕄) : iprop(bigSep s Φ ∗ bigSep s Ψ) ⊢ bigSep s (fun i => iprop(Φ i ∗ Ψ i)) :=
  Entails.of_eq (BI.bigSep_sep s Φ Ψ).symm
/-- One conjunction of pairs as two. -/
theorem apart {I : Type} (s : Finset I) (Φ Ψ : I → sProp 𝕄) : bigSep s (fun i => iprop(Φ i ∗ Ψ i)) ⊢ iprop(bigSep s Φ ∗ bigSep s Ψ) :=
  Entails.of_eq (BI.bigSep_sep s Φ Ψ)

/-- A persistent fact gives a conjunction of its consequences. -/
theorem allOf {I : Type} [Fintype I] [DecidableEq I] {R : sProp 𝕄} [BI.Persistent R] {Φ : I → sProp 𝕄} (h : ∀ i, R ⊢ Φ i) :
    R ⊢ bigSep Finset.univ Φ := by
  have h1 := bigSep_with_persistent (S := (Finset.univ : Finset I)) (R := R) (Φ := fun _ => iprop(emp)) (Ψ := Φ)
    (fun i _ => (show iprop(R ∗ emp) ⊢ Φ i from by iintro ⟨H, -⟩; iapply (h i); iexact H))
  rw [show (bigSep Finset.univ (fun _ : I => (iprop(emp) : sProp 𝕄))) = iprop(emp) from BI.bigSep_emp_const _] at h1
  iintro #H
  iapply h1
  isplitr; · iexact H
  iempintro

/-- All the invariants under one map of names, and every barrier at its first round. -/
def records (κ : GSem nD τ sig → ℕ) : sProp 𝕄 :=
  iprop((bigSep (barCells ∪ scCells) fun g => cellInv ER (rd (ownOf m)) (κ g) g) ∗ bigSep barCells fun g => reached ER g 0)
/-- The records can be used again. -/
instance records_persistent (κ : GSem nD τ sig → ℕ) : BI.Persistent (records m κ) := by unfold records; infer_instance

/-- One invariant of the records. -/
theorem inv_at (κ : GSem nD τ sig → ℕ) {g : GSem nD τ sig} (hg : g ∈ (barCells ∪ scCells : Finset (GSem nD τ sig))) :
    records m κ ⊢ cellInv ER (rd (ownOf m)) (κ g) g := by
  have h : (bigSep (barCells ∪ scCells) fun g => (cellInv ER (rd (ownOf m)) (κ g) g : sProp 𝕄)) ⊢ cellInv ER (rd (ownOf m)) (κ g) g := bigSep_elim hg
  unfold records
  iintro ⟨#H, -⟩
  iapply h; iexact H
/-- The barriers' invariants. -/
theorem records_invB (κ : GSem nD τ sig → ℕ) : records m κ ⊢ invB (ownOf m) κ := by
  unfold invB
  exact allOf fun c => inv_at m κ (Finset.mem_union_left _ (Finset.mem_map_of_mem barEmb (Finset.mem_univ c)))
/-- The transfers' invariants. -/
theorem records_invX (κ : GSem nD τ sig → ℕ) : records m κ ⊢ invX (ownOf m) κ := by
  unfold invX
  exact allOf fun p => inv_at m κ (Finset.mem_union_right _ (Finset.mem_map_of_mem scEmb (Finset.mem_univ p)))
/-- The barriers' rounds. -/
theorem records_rchB (κ : GSem nD τ sig → ℕ) : records m κ ⊢ rchB (F := F) := by
  unfold rchB
  refine allOf fun c => ?_
  have h : (bigSep barCells fun g => (reached ER g 0 : sProp 𝕄)) ⊢ reached ER (barCell c) 0 :=
    bigSep_elim (Φ := fun g => (reached ER g 0 : sProp 𝕄)) (Finset.mem_map_of_mem barEmb (Finset.mem_univ c))
  unfold records
  iintro ⟨-, #H⟩
  iapply h; iexact H

/-! ## What stays with a device -/

/-- The tokens device `c` pays with at the transfers' cells: its own send cell's, the neighbour's receive cell's. -/
def payT (c : Dev nD) (x : X) : sProp 𝕄 := iprop(dutyTok ER (sendCell c x) 0 0 ∗ dutyTok ER (recvCell (toDev c x.1) x) 0 0)
/-- All that device `c` pays with. -/
def payD (c : Dev nD) : sProp 𝕄 :=
  iprop(dutyTok ER (barCell (toDev c 1)) 0 0 ∗ dutyTok ER (barCell (toDev c 0)) 0 1 ∗ bigSep Finset.univ (payT (F := F) c))
/-- Its position at its barrier, its rights to open its cells, and what it pays with. -/
def linear (c : Dev nD) : sProp 𝕄 :=
  iprop(atPos ER (barCell c) 0 ∅ 0 ∗ (bigSep Finset.univ fun k : Fin 2 × X => openTok ER (cell k.1 c k.2)) ∗ payD (F := F) c)
/-- The credits of device `c`. -/
def credD (c : Dev nD) : sProp 𝕄 :=
  iprop(cred (tallyAt (barCell c) () 2) ∗ bigSep Finset.univ fun x : X => cred (tallyAt (recvCell c x) () N))
/-- What the launch keeps for the region. -/
def Tk (c : Dev nD) : sProp 𝕄 := iprop((∃ κ, records m κ) ∗ linear (F := F) c ∗ credD (F := F) c)

/-- The transfers' cells by role. -/
theorem byRole (Φ : Fin 2 × X → sProp 𝕄) :
    bigSep Finset.univ Φ = iprop((bigSep Finset.univ fun x : X => Φ (0, x)) ∗ bigSep Finset.univ fun x : X => Φ (1, x)) := by
  rw [BI.bigSep_univ_prod, BI.bigSep_fin_two]; rfl

/-- The region's entry: the semaphores go in, every transfer's cell opens. -/
theorem hopen (c : Dev nD) : iprop(Tk m c ∗ Pipeline.ownSems0 osem c ∗ levAts L lv) ⊢ (|={Set.univ}=> Xk m c : sProp 𝕄) := by
  have hk (κ : GSem nD τ sig → ℕ) (k : Fin 2 × X) :
      iprop(invX (ownOf m) κ ∗ (openTok ER (cell k.1 c k.2) ∗ semVal (cell k.1 c k.2) 0))
        ⊢ (|={Set.univ}=> iprop(atPos ER (cell k.1 c k.2) 0 ∅ 0 ∗ reached ER (cell k.1 c k.2) 0) : sProp 𝕄) := by
    iintro ⟨#HI, Ho, Hs⟩
    iapply (Rounds.cell_open ER (rd (ownOf m)) (g := cell k.1 c k.2) (Set.mem_univ (κ (cell k.1 c k.2))))
    isplitr; · iapply (invX_at (ownOf m) κ k.1 c k.2); iexact HI
    isplitl [Ho] <;> iassumption
  have hall (κ : GSem nD τ sig → ℕ) :
      iprop(invX (ownOf m) κ ∗ bigSep Finset.univ (fun k : Fin 2 × X => iprop(openTok ER (cell k.1 c k.2) ∗ semVal (cell k.1 c k.2) 0)))
        ⊢ (|={Set.univ}=> bigSep Finset.univ (fun k : Fin 2 × X => iprop(atPos ER (cell k.1 c k.2) 0 ∅ 0 ∗ reached ER (cell k.1 c k.2) 0)) : sProp 𝕄) :=
    (bigSep_with_persistent fun k _ => hk κ k).trans (bigSep_fupd _ _)
  have hr : bigSep Finset.univ (fun x : X => (reached ER (recvCell c x) 0 : sProp 𝕄)) ⊢ iprop(rchD (F := F) c 0 ∗ rchD (F := F) c 1) := by
    unfold rchD
    exact Entails.of_eq ((BI.bigSep_univ_prod _).trans (BI.bigSep_fin_two _))
  unfold Tk Xk Pipeline.ownSems0 linear payD credD Hs
  iintro ⟨⟨⟨%κ, #HR⟩, ⟨Hat, Hop, Ht1, Ht0, Hpay⟩, Hc2, Hcr⟩, Hs, #Hlev⟩
  imod (hall κ) $$ [Hop Hs] with Hopen
  · isplitr; · iapply (records_invX m κ); iexact HR
    iapply (together _ _ _)
    isplitl [Hop]; · iexact Hop
    iexact Hs
  ihave Hopen := (Entails.of_eq (byRole (F := F) _)) $$ Hopen
  icases Hopen with ⟨HS, HV⟩
  ihave HV := (apart _ _ _) $$ HV
  icases HV with ⟨HV, Hrch⟩
  ihave Hrch := hr $$ Hrch
  icases Hrch with ⟨Hr0, Hr1⟩
  imodintro
  iexists κ
  isplitr; · iapply (records_invB m κ); iexact HR
  isplitr; · iapply (records_invX m κ); iexact HR
  isplitr; · iexact Hlev
  isplitr; · iapply (records_rchB m κ); iexact HR
  isplitr [HV Hcr]
  · isplitl [Hat]; · iexact Hat
    isplitl [Hc2]; · iexact Hc2
    isplitl [Ht1]; · iexact Ht1
    isplitl [Ht0]; · iexact Ht0
    isplitl [HS Hpay]
    · have h : ∀ x : X, iprop((atPos ER (sendCell c x) 0 ∅ 0 ∗ reached ER (sendCell c x) 0) ∗ payT (F := F) c x) ⊢ SendG (F := F) c x := fun x => by
        unfold payT SendG
        iintro ⟨⟨H1, H2⟩, H3, H4⟩
        isplitl [H1]; · iexact H1
        isplitl [H3]; · iexact H3
        isplitl [H2] <;> iassumption
      have h' : bigSep Finset.univ (fun x : X => iprop((atPos ER (sendCell c x) 0 ∅ 0 ∗ reached ER (sendCell c x) 0) ∗ payT (F := F) c x))
          ⊢ bigSep Finset.univ (SendG (F := F) c) := bigSep_mono fun x _ => h x
      iapply h'
      iapply (together _ _ _)
      isplitl [HS]; · iexact HS
      iexact Hpay
    isplitl [Hr0] <;> iassumption
  unfold RecvTk
  iapply (together _ _ _)
  isplitl [HV]; · iexact HV
  iexact Hcr

/-- The region's scratch buffers are the protocol's. -/
theorem scr_eq (c : Dev nD) :
    (Pipeline.scopedRest (Ix := Unit) (Name := ℕ) (U := UU) (Lvl := ℕ) (Val := Elt F) (Pipeline.pin (pcfgs (F := F)) adm 0).spec c : sProp 𝕄) = scr (F := F) c :=
  scopedRest0_eq c

/-- Entering the invariant. -/
theorem hin (c : Dev nD) (W : Valuation τ sig (Elt F)) :
    iprop(Pipeline.scopedRest (Pipeline.pin (pcfgs (F := F)) adm 0).spec c ∗ (∃ r, prngReg c r) ∗ StableHlo.held (c.tc : Thread nD τ) ∅ W ∗ Xk m c)
      ⊢ (pdats m 0 c).Φ 0 := by
  rw [show (pdats m 0 c).Φ 0 = iprop(Xk m c ∗ scr (F := F) c ∗ ∃ r, prngReg c r) from rfl, scr_eq]
  iintro ⟨Hs, Hp, -, HX⟩
  isplitl [HX]; · iexact HX
  isplitl [Hs] <;> iassumption

/-- Leaving it. -/
theorem hout (c : Dev nD) (W : Valuation τ sig (Elt F)) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ W
        ∗ Pipeline.ownSems0 osem c ∗ Yk (F := F) c) := by
  rw [show (pdats m 0 c).Φ (Fin.last _) = iprop(Yk (F := F) c ∗ Pipeline.ownSems0 osem c ∗ scr (F := F) c ∗ ∃ r, prngReg c r) from rfl, scr_eq]
  iintro ⟨HY, Ho, Hs, Hp⟩
  isplitl [Hs]; · iexact Hs
  isplitl [Hp]; · iexact Hp
  isplitr
  · unfold StableHlo.held; rw [BI.bigSep_empty]; iempintro
  isplitl [Ho] <;> iassumption

/-- What is owed sits above the staging waits. -/
theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  have hb (d : Dev nD) : i ∈ L (barCell d) ∧ (0 : ℕ) < lv (barCell d) i :=
    ⟨by rw [L_tc]; exact Finset.mem_singleton_self _, by rw [lv_bar]; decide⟩
  have hz (d : Dev nD) (h : 0 < (tallyAt (barCell d) () 1 : CellTallies nD τ sig Unit) g i) : g = barCell d := by
    rw [tallyAt_apply] at h
    split at h
    · next hg => exact hg.1
    · exact absurd h (Nat.lt_irrefl 0)
  rw [e] at h
  split at h
  · unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨x, -, rfl⟩ := O_pos _ _ _ _ h
        exact ⟨by rw [L_tc]; exact Finset.mem_singleton_self _, by rw [lv_recv]; omega⟩
      · obtain rfl := hz _ h; exact hb _
    · obtain rfl := hz _ h; exact hb _
  · exact absurd h (Nat.lt_irrefl 0)

/-! ## The segments -/

/-- The program's buffers. -/
abbrev bufs : Finset (DevRef τ sig) := Pipeline.ucRefs τ sig
/-- Those that are no window's array. -/
abbrev rest : Finset (DevRef τ sig) := bufs \ Pipeline.arrRefs (τ := τ) spec0
/-- The buffers at launch. -/
abbrev Vl (c : Dev nD) : Valuation τ sig (Elt F) := fun b => m (c, b)
/-- The buffers when the region is entered. -/
abbrev V1 (c : Dev nD) : Valuation τ sig (Elt F) := StableHlo.after hostOps0 (Vl m c)
/-- The buffers when it is left. -/
def V2 (c : Dev nD) : Valuation τ sig (Elt F) := Function.update (V1 m c) (Proc.devRef .tc main_v7) (outOf m c)

/-- The buffers split into the arrays and the rest. -/
theorem bufs_split (c : Dev nD) (W : Valuation τ sig (Elt F)) :
    (StableHlo.held (c.tc : Thread nD τ) bufs W : sProp 𝕄)
      = iprop(StableHlo.held (c.tc : Thread nD τ) (Pipeline.arrRefs (τ := τ) spec0) W ∗ StableHlo.held (c.tc : Thread nD τ) rest W) :=
  StableHlo.held_sub_split (c.tc : Thread nD τ) (Pipeline.arrRefs_sub_ucRefs spec0 launch0.win.arr_unscoped) W

/-- What the launch asks of the region's tables. -/
theorem kitP : Pipeline.PLaunchFacts (nD := nD) (τ := τ) (pcfgs (F := F)) 0 where
  cellOf_inj a := by rw [Subsingleton.elim a adm]; exact stg_inj
  win := launch0.win
  pre := Pipeline.PreFacts.none _
  block_pos := launch0.block_pos
  arr_whole := launch0.arr_whole
  stage_whole := launch0.stage_whole

/-- Away from the arrays the region changes nothing. -/
theorem V2_rest (c : Dev nD) (b : DevRef τ sig) (hb : b ∈ rest \ ∅) : V2 m c b = V1 m c b := by
  unfold V2
  refine Function.update_of_ne (fun h => ?_) _ _
  subst h
  exact (Finset.mem_sdiff.mp (Finset.mem_sdiff.mp hb).1).2
    (Finset.mem_map_of_mem _ (Finset.mem_image_of_mem _ (Finset.mem_univ (3 : Fin 4))))

/-- The arrays the region finds. -/
theorem arr_in (c : Dev nD) (w : Fin 4) : (pdats m 0 c).arrAt w 0 = V1 m c (Proc.devRef .tc (Pipeline.arrRef spec0 w)) := rfl
/-- The arrays the region leaves. -/
theorem arr_fin (c : Dev nD) (w : Fin 4) : (pdats m 0 c).arrAt w cfg0.N = V2 m c (Proc.devRef .tc (Pipeline.arrRef spec0 w)) := by
  have hin (w : Fin 4) (h : (cfg0.win w).isOut = false) (hne : (Proc.devRef .tc (Pipeline.arrRef spec0 w) : DevRef τ sig) ≠ Proc.devRef .tc main_v7) :
      (dat0 m c).arrAt w cfg0.N = V2 m c (Proc.devRef .tc (Pipeline.arrRef spec0 w)) := by
    rw [(dat0 m c).arrAt_in w h]
    exact (Function.update_of_ne hne (outOf m c) (V1 m c)).symm
  show (dat0 m c).arrAt w cfg0.N = _
  match w with
  | 0 => exact hin 0 rfl (by decide)
  | 1 => exact hin 1 rfl (by decide)
  | 2 => exact hin 2 rfl (by decide)
  | 3 => exact (arr_out m c).trans (Function.update_self (Proc.devRef .tc main_v7) (outOf m c) (V1 m c)).symm

/-- What rides beside the buffers up to the region. -/
def R (c : Dev nD) : sProp 𝕄 := iprop(Tk m c ∗ (∃ r, prngReg c r) ∗ ∃ W, owes (c : Thread nD τ) (O₀ c) W)
/-- What rides beside them after it. -/
def R' (c : Dev nD) : sProp 𝕄 := iprop(Yk (F := F) c ∗ ∃ W, owes (c : Thread nD τ) (0 : CellTallies nD τ sig Unit) W)

/-- The host code before the region keeps to the buffers. -/
theorem ops0_sub : ∀ op ∈ (hostOps0 : List (HloOp τ sig (Elt F))), op.bufs ⊆ bufs := fun op h =>
  Pipeline.sub_ucRefs op ((List.forall_iff_forall_mem.mp hostOps0_sub) op h)
/-- So does the host code after it. -/
theorem ops1_sub : ∀ op ∈ (hostOps1 : List (HloOp τ sig (Elt F))), op.bufs ⊆ bufs := fun op h =>
  Pipeline.sub_ucRefs op ((List.forall_iff_forall_mem.mp hostOps1_sub) op h)

/-- The staging semaphores sit at the bottom. -/
theorem stg_lv : ∀ (w : Fin 4) (s : Fin (spec0 w).nbuf), lvS (.dma ((spec0 w).sem s)) ≤ 0 := by decide +kernel

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-- The operations before the region. -/
def seg0 : ℍ := Pipeline.HostSeg.ofOps _ _ _ _ _ bufs hostOps0 ops0_sub (List.forall_iff_forall_mem.mp hostOps0_fresh) (Vl m) (R m)
/-- The operations after it. -/
def seg2 : ℍ := Pipeline.HostSeg.ofOps _ _ _ _ _ bufs hostOps1 ops1_sub (List.forall_iff_forall_mem.mp hostOps1_fresh) (V2 m) (R' (F := F))

set_option backward.isDefEq.respectTransparency.types false in
/-- The region. -/
def reg : ℝ𝕊 0 :=
  Pipeline.RegionSeg.ofTalk (pcfgs (F := F)) adm (pdats m) () defs₀ 𝒱₀ L lv 0 osem (by decide +kernel : Pipeline.OwnSemFacts spec0 osem)
    ∅ rest (Finset.empty_subset _) kitP rfl (fun c => (body0 m c).loose)
    (fun _ => 0) O₀ (fun c => (owed_zero m c).trans (zero_add _).symm) (owed_last m) (fun _ => rfl) (fun _ _ => ite_self _)
    (V1 m) (V2 m) (V2_rest m)
    (Tk m) (Yk (F := F)) (Xk m) (Yk (F := F)) (hopen m) (fun c => hin m c _) (fun c => hout m c _)
    (fun c => by iintro H; imodintro; iexact H)
    (fun _ => 0)
    ⟨fun c w s => by rw [L_tc]; exact Finset.mem_singleton_self _,
      fun c w s => stg_lv w s, fun c t g i h => cutD m c t g i h⟩
    (fun _ => iprop(emp))
    (arr_in m) (arr_fin m)

/-- What the region is entered with. -/
theorem reg_pre (c : Dev nD) : iprop(StableHlo.held (c.tc : Thread nD τ) bufs (V1 m c) ∗ R m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ Tk m c ∗ ∃ Wd, owes (c : Thread nD τ) (0 + O₀ c) Wd)
  rw [bufs_split, zero_add]
  unfold R
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What it is left with. -/
theorem reg_post (c : Dev nD) : (reg m).post c ⊢ iprop(StableHlo.held (c.tc : Thread nD τ) bufs (V2 m c) ∗ R' (F := F) c) := by
  show iprop(StableHlo.held (c.tc : Thread nD τ) (Pipeline.arrRefs (τ := τ) spec0) (V2 m c) ∗ (∃ r, prngReg c r)
    ∗ (StableHlo.held (c.tc : Thread nD τ) rest (V2 m c) ∗ emp) ∗ Yk (F := F) c ∗ ∃ Wd, owes (c : Thread nD τ) (0 : CellTallies nD τ sig Unit) Wd) ⊢ _
  rw [bufs_split]
  unfold R'
  iintro ⟨Ha, -, ⟨Hr, -⟩, HY, HO⟩
  isplitl [Ha Hr]
  · isplitl [Ha] <;> iassumption
  isplitl [HY] <;> iassumption

/-- The program as its segments. -/
def segs : List (Pipeline.Seg (pcfgs (F := F)) adm (pdats m) () defs₀ 𝒱₀ L lv) := [.host (seg0 m), .region (reg m), .host (seg2 m)]
/-- The program is its three segments in turn. -/
theorem main_eq (c : Dev nD) : main (F := F) c = Pipeline.Seg.run (segs m) :=
  main_segs adm (pdats m) () 𝒱₀ L lv (seg0 m) (seg2 m) (reg m) rfl rfl c

end Cert.Attn

end
-- ==== Proof.Launch.lean ====
/- The launch dealt out, and the run of the whole program. -/
module

public import proofs.«01_k».proof.Proof.Run

@[expose] public section

set_option synthInstance.maxSize 4096

noncomputable section

namespace Cert.Attn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The tokens go to those who pay with them -/

/-- A conjunction over the devices, device by device. -/
theorem allMono {Φ Ψ : Dev nD → sProp 𝕄} (h : ∀ c, Φ c ⊢ Ψ c) : bigSep Finset.univ Φ ⊢ bigSep Finset.univ Ψ := bigSep_mono fun c _ => h c

/-- One step round the ring is a permutation of the devices. -/
def ringP (d : Fin 2) : Dev nD ≃ Dev nD :=
  ⟨fun c => toDev c d, fun c => toDev c (1 - d), fun c => toDev_toDev c d, fun c => toDev_toDev' c d⟩

/-- One step round the ring named by the transfer's direction permutes devices and transfers together. -/
def ringX : Dev nD × X ≃ Dev nD × X :=
  ⟨fun p => (toDev p.1 p.2.1, p.2), fun p => (toDev p.1 (1 - p.2.1), p.2),
    fun p => Prod.ext (toDev_toDev p.1 p.2.1) rfl, fun p => Prod.ext (toDev_toDev' p.1 p.2.1) rfl⟩

/-- The receive tokens, each at the device that sends there. -/
theorem recv_around :
    (bigSep Finset.univ fun c : Dev nD => bigSep Finset.univ fun x : X => (dutyTok ER (recvCell c x) 0 0 : sProp 𝕄))
      = bigSep Finset.univ fun c : Dev nD => bigSep Finset.univ fun x : X => dutyTok ER (recvCell (toDev c x.1) x) 0 0 := by
  have h := BI.bigSep_univ_equiv ringX (fun p : Dev nD × X => (dutyTok ER (recvCell p.1 p.2) 0 0 : sProp 𝕄))
  rw [BI.bigSep_univ_prod, BI.bigSep_univ_prod] at h
  exact h

/-- A barrier's tokens, each at the neighbour that pays it. -/
theorem bar_around (d e : Fin 2) :
    (bigSep Finset.univ fun c : Dev nD => (dutyTok ER (barCell c) 0 e : sProp 𝕄))
      = bigSep Finset.univ fun c : Dev nD => dutyTok ER (barCell (toDev c d)) 0 e :=
  BI.bigSep_univ_equiv (ringP d) (fun c : Dev nD => (dutyTok ER (barCell c) 0 e : sProp 𝕄))

/-- A device's own tokens. -/
def toks (c : Dev nD) : sProp 𝕄 :=
  iprop((dutyTok ER (barCell c) 0 0 ∗ dutyTok ER (barCell c) 0 1)
    ∗ ((bigSep Finset.univ fun x : X => dutyTok ER (sendCell c x) 0 0) ∗ bigSep Finset.univ fun x : X => dutyTok ER (recvCell c x) 0 0))

/-- All the tokens, device by device. -/
theorem toks_eq : bigSep talkToks (fun t => (dutyTok ER t.1 t.2.1 t.2.2 : sProp 𝕄)) = bigSep Finset.univ fun c : Dev nD => toks (F := F) c := by
  unfold talkToks
  rw [BI.bigSep_map, BI.bigSep_univ_prod]
  refine bigSep_congr fun c _ => ?_
  rw [BI.bigSep_univ_sum, BI.bigSep_fin_two, BI.bigSep_univ_prod, BI.bigSep_fin_two]
  rfl

/-- The tokens dealt: every device gets those it pays with. -/
theorem toks_around : (bigSep Finset.univ fun c : Dev nD => toks (F := F) c) ⊢ bigSep Finset.univ fun c : Dev nD => payD (F := F) c := by
  have hpay (c : Dev nD) : iprop((dutyTok ER (barCell (toDev c 1)) 0 0 ∗ dutyTok ER (barCell (toDev c 0)) 0 1)
        ∗ ((bigSep Finset.univ fun x : X => dutyTok ER (sendCell c x) 0 0) ∗ bigSep Finset.univ fun x : X => dutyTok ER (recvCell (toDev c x.1) x) 0 0))
      ⊢ payD (F := F) c := by
    unfold payD payT
    iintro ⟨⟨H1, H2⟩, H3, H4⟩
    isplitl [H1]; · iexact H1
    isplitl [H2]; · iexact H2
    iapply (together _ _ _)
    isplitl [H3] <;> iassumption
  unfold toks
  iintro H
  ihave H := (apart _ _ _) $$ H
  icases H with ⟨HB, HX⟩
  ihave HB := (apart _ _ _) $$ HB
  icases HB with ⟨H1, H2⟩
  ihave HX := (apart _ _ _) $$ HX
  icases HX with ⟨HS, HV⟩
  ihave H1 := (Entails.of_eq (bar_around (F := F) 1 0)) $$ H1
  ihave H2 := (Entails.of_eq (bar_around (F := F) 0 1)) $$ H2
  ihave HV := (Entails.of_eq (recv_around (F := F))) $$ HV
  have hall := allMono hpay
  iapply hall
  iapply (together _ _ _)
  isplitl [H1 H2]
  · iapply (together _ _ _); isplitl [H1] <;> iassumption
  iapply (together _ _ _); isplitl [HS] <;> iassumption

/-! ## The launch credit -/

/-- What a device owes one cell. -/
theorem owed_eq (d : Dev nD) (g : GSem nD τ sig) :
    O₀ d g () = ((∑ x : X, if g = recvCell (toDev d x.1) x then N else 0) + if g = barCell (toDev d 0) then 1 else 0)
      + if g = barCell (toDev d 1) then 1 else 0 := by
  unfold O₀ O
  rw [Pi.add_apply, Finsupp.add_apply, Pi.add_apply, Finsupp.add_apply, Finset.sum_apply, Finsupp.finset_sum_apply, tallyAt_apply, tallyAt_apply]
  simp only [tallyAt_apply, and_true]

/-- A receive cell is no barrier. -/
theorem recv_ne_bar (c d : Dev nD) (x : X) : recvCell c x ≠ barCell d := fun h => osem_ne_bar _ (congrArg Prod.snd h)
/-- Receive cells are one when device and transfer are. -/
theorem recv_eq_iff (c d : Dev nD) (x y : X) : recvCell c x = recvCell d y ↔ d = c ∧ y = x := by
  constructor
  · intro h
    exact ⟨(congrArg (fun g : GSem nD τ sig => g.1.1) h).symm, (congrArg Prod.snd (osem_inj (congrArg Prod.snd h))).symm⟩
  · rintro ⟨rfl, rfl⟩; rfl
/-- Barriers are one when the device is. -/
theorem bar_eq_iff (c d : Dev nD) : barCell c = barCell d ↔ d = c :=
  ⟨fun h => (congrArg (fun g : GSem nD τ sig => g.1.1) h).symm, fun h => by rw [h]⟩
/-- The device that sends to `c`. -/
theorem toDev_eq_iff (c d : Dev nD) (k : Fin 2) : toDev d k = c ↔ d = toDev c (1 - k) := (ringP k).apply_eq_iff_eq_symm_apply

/-- Each barrier is owed one unit from either side. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same]
  have h (d : Dev nD) : O₀ d (barCell c) () = (if d = toDev c (1 - 0) then 1 else 0) + if d = toDev c (1 - 1) then 1 else 0 := by
    rw [owed_eq, Finset.sum_eq_zero fun x _ => if_neg (Ne.symm (recv_ne_bar _ _ _)), zero_add]
    simp only [bar_eq_iff, toDev_eq_iff]
  rw [Finset.sum_congr rfl fun d _ => h d, Finset.sum_add_distrib, Finset.sum_ite_eq', Finset.sum_ite_eq', if_pos (Finset.mem_univ _), if_pos (Finset.mem_univ _)]

/-- Each receive cell is owed one transfer's worth. -/
theorem launch_recv (c : Dev nD) (x : X) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same]
  have h (d : Dev nD) : O₀ d (recvCell c x) () = if d = toDev c (1 - x.1) then N else 0 := by
    rw [owed_eq, if_neg (recv_ne_bar _ _ _), if_neg (recv_ne_bar _ _ _), add_zero, add_zero]
    rw [Finset.sum_eq_single x]
    · simp only [recv_eq_iff, toDev_eq_iff, and_true]
    · intro y _ hy; rw [if_neg fun e => hy ((recv_eq_iff _ _ _ _).mp e).2]
    · exact fun h => absurd (Finset.mem_univ _) h
  rw [Finset.sum_congr rfl fun d _ => h d, Finset.sum_ite_eq', if_pos (Finset.mem_univ _)]

/-- The receive semaphores. -/
def recvEmb : X ↪ SemLoc sig := ⟨fun x => osem (1, x), fun _ _ h => congrArg Prod.snd (osem_inj h)⟩

/-- The credits of a device at launch. -/
theorem creds (c : Dev nD) : (Pipeline.launchCred O₀ c : sProp 𝕄) ⊢ credD (F := F) c := by
  unfold Pipeline.launchCred credD
  rw [bigSep_univ_at _ (SemLoc.reg barS), launch_bar]
  refine sep_mono_right ?_
  have hs : Finset.univ.map recvEmb ⊆ Finset.univ.erase (SemLoc.reg barS) := by
    intro s hs
    obtain ⟨x, -, rfl⟩ := Finset.mem_map.mp hs
    exact Finset.mem_erase.mpr ⟨osem_ne_bar _, Finset.mem_univ _⟩
  refine (BI.bigSep_subset hs).trans ?_
  rw [BI.bigSep_map]
  refine Entails.of_eq (bigSep_congr fun x _ => ?_)
  exact congrArg cred (launch_recv c x)

/-! ## The run -/

/-- The buffers at the end. -/
abbrev V3 (c : Dev nD) : Valuation τ sig (Elt F) := StableHlo.after hostOps1 (V2 m c)
/-- What a device holds before the host code. -/
abbrev T₀ (c : Dev nD) : sProp 𝕄 := iprop(StableHlo.held (c : Thread nD τ) bufs (Vl m c) ∗ R m c)
/-- What it holds at the end. -/
abbrev Tₙ (c : Dev nD) : sProp 𝕄 := iprop(StableHlo.held (c : Thread nD τ) bufs (V3 m c) ∗ Yk (F := F) c)

/-- What a device holds at launch beside the protocol's resources. -/
def bundle (c : Dev nD) : sProp 𝕄 :=
  iprop(StableHlo.held (c : Thread nD τ) bufs (Vl m c) ∗ credD (F := F) c ∗ owes (c : Thread nD τ) (O₀ c) ∅ ∗ ∃ r, prngReg c r)

/-- What the launch hands out makes up what a device holds at first. -/
theorem T₀_intro (κ : GSem nD τ sig → ℕ) (c : Dev nD) : iprop(records m κ ∗ (linear (F := F) c ∗ bundle m c)) ⊢ T₀ m c := by
  unfold bundle T₀ R Tk
  iintro ⟨#HR, Hl, Hh, Hc, HO, Hp⟩
  isplitl [Hh]; · iexact Hh
  isplitl [Hl Hc]
  · isplitr; · iexists κ; iexact HR
    isplitl [Hl] <;> iassumption
  isplitl [Hp]; · iexact Hp
  iexists ∅; iexact HO

/-- The one semaphore that outlives regions is the barrier's. -/
theorem unscoped_eq : ∀ sm : SemLoc sig, sm.isScoped .tc = false → sm = .reg barS := by decide +kernel
/-- The one counter outside the region is the barrier's. -/
theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The launch: the invariants allocated and everything dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G (F := F) c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G (F := F) c)
      ⊢ (iprop(bundle m c ∗ (semVal (barCell c) 0 ∗ G (F := F) c)) : sProp 𝕄) := by
    rw [show unscopedBufs c (fun b => m ((c : Thread nD τ).loc b)) = StableHlo.held (c : Thread nD τ) bufs (Vl m c) from Pipeline.unscopedBufs_held c (Vl m c),
      unscopedSems_eq]
    unfold bundle
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 2 × X => (openTok ER (cell k.1 c k.2) : sProp 𝕄)) :=
    Entails.of_eq (by rw [BI.bigSep_map, BI.bigSep_univ_prod]; rfl)
  have hcores := allMono hcore
  have hdeal (κ : GSem nD τ sig → ℕ) := bigSep_with_persistent (S := (Finset.univ : Finset (Dev nD))) (R := records m κ)
    (Φ := fun c => iprop(linear (F := F) c ∗ bundle m c)) (Ψ := T₀ m) fun c _ => T₀_intro m κ c
  iintro ⟨H, -⟩
  ihave H := hcores $$ H
  ihave H := (apart _ _ _) $$ H
  icases H with ⟨HB, H⟩
  ihave H := (apart _ _ _) $$ H
  icases H with ⟨Hv, HG⟩
  ihave Hu := (show bigSep Finset.univ (G (F := F)) ⊢ BI.own (ER (launchOf barCells scCells talkToks)) from
    Entails.of_eq (bigSep_onZero (F := F) (BI.own (ER (launchOf barCells scCells talkToks))))) $$ HG
  imod (Rounds.fund_launch ER (rd (ownOf m)) disjoint_cells (fun g _ h => h) talkToks) $$ [Hv Hu] with ⟨%κ, -, #Hinv, #Hr, Hat, Hop, Htok⟩
  · isplitl [Hv]
    · iapply hv $$ Hv
    · iexact Hu
  imodintro
  iapply (hdeal κ)
  isplitr
  · unfold records
    isplitr; · iexact Hinv
    iexact Hr
  iapply (together _ _ _)
  isplitr [HB]
  · unfold linear
    iapply (together _ _ _); isplitl [Hat]; · iapply hat $$ Hat
    iapply (together _ _ _); isplitl [Hop]; · iapply hop $$ Hop
    iapply (toks_around (F := F))
    iapply (Entails.of_eq (toks_eq (F := F))) $$ Htok
  · iexact HB

/-- The buffers read at the end: the arguments and the result. -/
abbrev seen : Finset (DevRef τ sig) :=
  {Proc.devRef .tc main_arg0, Proc.devRef .tc main_arg1, Proc.devRef .tc main_arg2, Proc.devRef .tc main_v9}
/-- What the claims look at is among the buffers. -/
theorem seen_sub : seen ⊆ bufs := by decide +kernel

/-- They are held one by one. -/
theorem held_seen (c : Dev nD) (W : Valuation τ sig (Elt F)) : (StableHlo.held (c : Thread nD τ) bufs W : sProp 𝕄)
    ⊢ iprop(((c : Thread nD τ).loc main_arg0 ↦{fullShare} W main_arg0) ∗ ((c : Thread nD τ).loc main_arg1 ↦{fullShare} W main_arg1)
      ∗ ((c : Thread nD τ).loc main_arg2 ↦{fullShare} W main_arg2) ∗ ((c : Thread nD τ).loc main_v9 ↦{fullShare} W main_v9)) := by
  unfold StableHlo.held
  refine BI.Entails.trans (BI.bigSep_subset seen_sub) ?_
  rw [bigSep_eq_bigSepL_of_eq [Proc.devRef .tc main_arg0, Proc.devRef .tc main_arg1, Proc.devRef .tc main_arg2, Proc.devRef .tc main_v9]
    (by decide +kernel) (by decide +kernel)]
  exact BI.Entails.refl _

set_option backward.isDefEq.respectTransparency.types false in
/-- The run: from any memory with zero counters every fair execution ends, with the arguments and the result at their final values
    and every semaphore counter at zero. -/
theorem run_all : θ_run defs (onTc (τ := τ) (main (F := F))) (s₀ m ρ)
    (fun r => (∀ c : Dev nD, (r.2.mem ((c : Thread nD τ).loc main_arg0) = V3 m c main_arg0
        ∧ r.2.mem ((c : Thread nD τ).loc main_arg1) = V3 m c main_arg1
        ∧ r.2.mem ((c : Thread nD τ).loc main_arg2) = V3 m c main_arg2)
        ∧ r.2.mem ((c : Thread nD τ).loc main_v9) = V3 m c main_v9) ∧ r.2.sem = fun _ => 0) :=
  Pipeline.θ_run_regions_kit_sems (pcfgs (F := F)) adm (pdats m) () stg_inj EP defs₀ 𝒱₀ L lv m ρ (main (F := F)) (segs m)
    (fun c Q => by rw [main_eq m c])
    (by simp only [segs, Pipeline.Seg.pipes_host, Pipeline.Seg.pipes_region, Pipeline.Seg.pipes_nil]; decide)
    (O₀ := O₀) (hL := L_of_ne) (G := G (F := F)) (u₀ := u₀ (F := F))
    (hu₀ := by
      unfold u₀
      iintro Hu
      ihave H := (ownU_pair _ _) $$ Hu
      icases H with ⟨HP, HX⟩
      imodintro
      isplitl [HP]; · iexact HP
      iapply (Entails.of_eq (bigSep_onZero (F := F) _).symm); iexact HX)
    (T₀ := T₀ m) (Tₙ := Tₙ m)
    (hch := by
      refine ⟨fun c => .rfl, fun c => reg_pre m c, fun c => reg_post m c, fun c => ?_⟩
      show iprop(StableHlo.held (c : Thread nD τ) bufs (V3 m c)
          ∗ (Yk (F := F) c ∗ ∃ W, owes (c : Thread nD τ) (0 : CellTallies nD τ sig Unit) W))
        ⊢ iprop(Tₙ m c ∗ ∃ W, owes (c : Thread nD τ) (0 : CellTallies nD τ sig Unit) W)
      iintro ⟨Hh, Hb0, HO⟩
      isplitr [HO]
      · isplitl [Hh] <;> iassumption
      · iexact HO)
    (hinit := init m ρ)
    (QY := fun c s => ((s.mem ((c : Thread nD τ).loc main_arg0) = V3 m c main_arg0
        ∧ s.mem ((c : Thread nD τ).loc main_arg1) = V3 m c main_arg1
        ∧ s.mem ((c : Thread nD τ).loc main_arg2) = V3 m c main_arg2)
        ∧ s.mem ((c : Thread nD τ).loc main_v9) = V3 m c main_v9) ∧ s.sem (barCell c) = 0)
    (hfin := fun c s' => by
      have hs := held_seen c (V3 m c)
      dsimp only [Tₙ]; unfold Yk
      iintro ⟨⟨Hh, Hb0⟩, HSI⟩
      ihave Hh := hs $$ Hh
      icases Hh with ⟨H0, H1, H2, H9⟩
      icombine HSI H0 gives %h0
      icombine HSI H1 gives %h1
      icombine HSI H2 gives %h2
      icombine HSI H9 gives %h9
      icombine HSI Hb0 gives %hb
      imodintro
      isplitr
      · ipureintro
        exact ⟨⟨⟨Buf.eq_of_forall_mem_univ h0, Buf.eq_of_forall_mem_univ h1, Buf.eq_of_forall_mem_univ h2⟩, Buf.eq_of_forall_mem_univ h9⟩, by simpa using hb⟩
      iexact HSI)
    (hQ := fun s h hs => ⟨fun c => (h c).1,
      sem_eq_zero hs fun c sm hsm => by
        obtain rfl := unscoped_eq sm hsm
        exact (h c).2⟩)

/-! ## What the buffers hold at the end -/

/-- The result's buffer: the kernel's result, split by batch and transposed. -/
def finalOf (c : Dev nD) : Buf (Elt F) ((c : Thread nD τ).loc main_v9) :=
  transpose S2x512x8x64 [0, 3, 1, 2] (shapeCast S2x8x64x512 (outOf m c) shapeCasts_S16x64x512_S2x8x64x512) transposes_S2x8x64x512_S2x512x8x64_0_3_1_2

/-- What the last operations write none of ends as the region left it. -/
theorem V3_other (c : Dev nD) (b : Ref sig .tc) (h8 : b ≠ main_v8) (h9 : b ≠ main_v9) (h7 : b ≠ main_v7) : V3 m c b = V1 m c b := by
  unfold V3
  rw [StableHlo.after_of_forall_not_mem (b := Proc.devRef .tc b) _ _ (List.forall_iff_forall_mem.mp (by
    simp only [hostOps1, List.Forall, StableHlo.unary_writes, StableHlo.reshape_writes, Finset.mem_singleton]
    exact ⟨StableHlo.devRef_ne_of_ne h8, StableHlo.devRef_ne_of_ne h9⟩))]
  exact Function.update_of_ne (StableHlo.devRef_ne_of_ne h7) (outOf m c) (V1 m c)

/-- The result's buffer at the end. -/
theorem V3_result (c : Dev nD) : V3 m c main_v9 = finalOf m c := by
  unfold V3 hostOps1
  rw [StableHlo.after_cons, StableHlo.after_cons, StableHlo.after_nil]
  simp only [StableHlo.unary_result', StableHlo.reshape_result']
  unfold V2 finalOf
  rw [Function.update_self]
  rfl

/-- The run of the program: the arguments end unchanged, the result is the attention of every device's blocks, every counter is zero. -/
theorem run_main : θ_run defs (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
        ∧ r.2.mem ((c : Thread nD τ).loc main_v9) = finalOf m c) ∧ r.2.sem = fun _ => 0) := by
  refine (θ_run defs _ _).mono (fun r h => ⟨fun c => ?_, h.2⟩) (run_all m ρ)
  obtain ⟨⟨h0, h1, h2⟩, h9⟩ := h.1 c
  exact ⟨⟨h0.trans ((V3_other m c _ (by decide) (by decide) (by decide)).trans (V_main_arg0 m c)),
    h1.trans ((V3_other m c _ (by decide) (by decide) (by decide)).trans (V_main_arg1 m c)),
    h2.trans ((V3_other m c _ (by decide) (by decide) (by decide)).trans (V_main_arg2 m c))⟩, h9.trans (V3_result m c)⟩

/-- The same run, the result dropped. -/
theorem run_frame : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  (θ_run defs _ _).mono (fun r h => ⟨fun c => (h.1 c).1, h.2⟩) (run_main m ρ)

end Cert.Attn

end
-- ==== Proof.Same.lean ====
/- The kernel and its idealization are one text: no rule rewrote anything. -/
module

public import proofs.«01_k».proof.Proof.Gen.Kernel
public import proofs.«01_k».proof.Proof.Gen.KernelIdeal

@[expose] public section

noncomputable section

namespace Cert.Attn

open Idealize.ShloMosaic

variable [hK : Cert.Kernel.Facts] [hI : Cert.KernelIdeal.Facts] {F : FTy → Type} [FloatOps F]

/-- The two bodies are one. -/
theorem body_same : Cert.Kernel.cc0_body (F := F) = Cert.KernelIdeal.cc0_body (F := F) := rfl

/-- So are the two tables of bodies. -/
theorem table_same : Cert.Kernel.defs₀ (F := F) = Cert.KernelIdeal.defs₀ (F := F) := by
  unfold Cert.Kernel.defs₀ Cert.KernelIdeal.defs₀
  congr 1
  funext l a
  match l, a with
  | 0, (t, s) =>
    show Cert.Kernel.cc0_body (F := F) _ _ _ _ _ _ _ _ _ _ _ _ _ _ _ _ _ _ _ _ _ _ = Cert.KernelIdeal.cc0_body (F := F) _ _ _ _ _ _ _ _ _ _ _ _ _ _ _ _ _ _ _ _ _ _
    rw [body_same]
  | ⟨_ + 1, h⟩, _ => exact absurd h (Nat.not_lt.2 (Nat.le_add_left _ _))

/-- And the definitions the program runs under. -/
theorem defs_same : Cert.Kernel.defs (F := F) = Cert.KernelIdeal.defs (F := F) := by
  unfold Cert.Kernel.defs Cert.KernelIdeal.defs
  rw [table_same]
  rfl

end Cert.Attn

end
-- ==== Proof.Soft.lean ====
/- The weights of attention over the extended reals: dividing by the sum once, at the end, is dividing each weight, whatever real
   number the scores are shifted by. -/
module

public import Idealize.ShloMosaic.Lib.Pointwise
public import Idealize.ShloMosaic.Lib.ValueIdx

@[expose] public section

noncomputable section

namespace Cert.Attn

open Idealize.ShloMosaic

/-- A sum of extended reals, times a nonnegative real, is the sum of the products. -/
theorem sum_mul_real {ι : Type} (S : Finset ι) (f : ι → EReal) (c : ℝ) (hc : 0 ≤ c) :
    (∑ k ∈ S, f k) * (c : EReal) = ∑ k ∈ S, f k * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- Dividing by a real other than zero. -/
theorem div_real (x : EReal) (r : ℝ) (hr : r ≠ 0) : Ideal.div x (r : EReal) = x * ((r⁻¹ : ℝ) : EReal) := by
  unfold Ideal.div
  rw [if_neg (by exact_mod_cast hr), EReal.coe_inv]

/-- A sum of exponentials of reals. -/
theorem sum_exp {ι : Type} (S : Finset ι) (s : ι → ℝ) :
    ∑ k ∈ S, Ideal.exp (s k : EReal) = ((∑ k ∈ S, Real.exp (s k) : ℝ) : EReal) := by
  classical
  induction S using Finset.induction_on with
  | empty => simp
  | insert a S ha ih => rw [Finset.sum_insert ha, Finset.sum_insert ha, ih, Ideal.exp_coe, EReal.coe_add]

/-- The attention sum: unshifted weights divided by their sum at the end, against shifted weights divided one by one. -/
theorem soft {ι : Type} [Fintype ι] [Nonempty ι] (s : ι → ℝ) (M : ℝ) (v : ι → EReal) :
    Ideal.div (∑ k, v k * Ideal.exp (s k : EReal)) (∑ k, Ideal.exp (s k : EReal))
      = ∑ k, v k * Ideal.div (Ideal.exp ((s k : EReal) - (M : EReal))) (∑ j, Ideal.exp ((s j : EReal) - (M : EReal))) := by
  have hD : 0 < ∑ k, Real.exp (s k) := Finset.sum_pos (fun k _ => Real.exp_pos _) Finset.univ_nonempty
  have hE : 0 < ∑ k, Real.exp (s k - M) := Finset.sum_pos (fun k _ => Real.exp_pos _) Finset.univ_nonempty
  have hs : ∀ k, (s k : EReal) - (M : EReal) = ((s k - M : ℝ) : EReal) := fun k => (EReal.coe_sub _ _).symm
  simp only [hs]
  rw [sum_exp, sum_exp, div_real _ _ hD.ne', sum_mul_real _ _ _ (inv_pos.mpr hD).le]
  refine Finset.sum_congr rfl fun k _ => ?_
  rw [div_real _ _ hE.ne', Ideal.exp_coe, Ideal.exp_coe, mul_assoc, ← EReal.coe_mul, ← EReal.coe_mul]
  congr 2
  have h : ∑ k, Real.exp (s k - M) = (∑ k, Real.exp (s k)) * (Real.exp M)⁻¹ := by
    rw [Finset.sum_mul]
    exact Finset.sum_congr rfl fun j _ => by rw [Real.exp_sub, div_eq_mul_inv]
  rw [h, Real.exp_sub]
  have := Real.exp_pos M
  field_simp

/-- A finite extended real is a real. -/
theorem real_of_abs_lt (x : EReal) (h : max x (-x) < ⊤) : ∃ r : ℝ, x = (r : EReal) := by
  induction x using EReal.rec with
  | bot => simp at h
  | top => simp at h
  | coe r => exact ⟨r, rfl⟩

/-- A sum of products of reals is a real. -/
theorem sum_real {ι : Type} (S : Finset ι) (f g : ι → EReal) (hf : ∀ k, ∃ r : ℝ, f k = r) (hg : ∀ k, ∃ r : ℝ, g k = r) :
    ∃ r : ℝ, ∑ k ∈ S, f k * g k = (r : EReal) := by
  classical
  choose a ha using hf
  choose b hb using hg
  refine ⟨∑ k ∈ S, a k * b k, ?_⟩
  induction S using Finset.induction_on with
  | empty => simp
  | insert i S hi ih => rw [Finset.sum_insert hi, Finset.sum_insert hi, ih, ha, hb, EReal.coe_add, EReal.coe_mul]

/-- The greatest of some reals, from below all of them, is a real. -/
theorem max_real {ι : Type} (S : Finset ι) (hS : S.Nonempty) (f : ι → ℝ) :
    ∃ M : ℝ, S.fold max (⊥ : EReal) (fun k => (f k : EReal)) = (M : EReal) := by
  classical
  induction hS using Finset.Nonempty.cons_induction with
  | singleton a => exact ⟨f a, by simp⟩
  | cons a S ha hS ih =>
    obtain ⟨M, hM⟩ := ih
    refine ⟨max (f a) M, ?_⟩
    rw [Finset.fold_cons, hM]; exact (EReal.coe_strictMono.monotone.map_max).symm

end Cert.Attn

end
-- ==== Proof.Value.lean ====
/- What the kernel and the reference compute at an index, over the extended reals. -/
module

public import proofs.«01_k».proof.Proof.Launch
public import proofs.«01_k».proof.Proof.Soft
public import proofs.«01_k».proof.Proof.Gen.ReferenceIdeal.Run
public import Idealize.ShloMosaic.Lib.Pointwise

@[expose] public section

noncomputable section

namespace Cert.Attn

open Idealize.ShloMosaic Idealize.ShloMosaic.TcCoe

/-- The factor the scores are scaled by. -/
abbrev scale : EReal := Ideal.ofBits .f32 0x3E000000#32
/-- It is a real. -/
theorem scale_real : ∃ r : ℝ, scale = (r : EReal) :=
  ⟨1 / 8, by simp [scale, Ideal.ofBits, Ideal.ieee, -EReal.coe_mul]; norm_num⟩

/-! ## The kernel's steps -/

section
open Cert.KernelIdeal Cert.KernelIdeal.Gen

/-- A weight is the exponential of the scaled product of a query and a key. -/
theorem scoreV_apply (k : FVec Ideal S4x64x512 .bf16) (q : FVec Ideal S4x512x64 .bf16) (r : Fin 4) (i j : Fin 512) :
    scoreV k q (ix3 r i j) = Ideal.exp ((∑ x : Fin 64, q (ix3 r i x) * k (ix3 r x j)) * scale) := by
  pointwise [scoreV]
/-- A row's sum. -/
theorem rowsV_apply (p : FVec Ideal S4x512x512 .f32) (r : Fin 4) (i : Fin 512) :
    rowsV p (ix2 r i) = ∑ j : Fin 512, p (ix3 r i j) := by
  pointwise [rowsV]
/-- The values, weighted. -/
theorem prodV_apply (v : FVec Ideal S4x64x512 .bf16) (p : FVec Ideal S4x512x512 .bf16) (r : Fin 4) (e : Fin 64) (i : Fin 512) :
    prodV v p (ix3 r e i) = ∑ j : Fin 512, v (ix3 r e j) * p (ix3 r i j) := by
  pointwise [prodV]
/-- The quotient divides by the row's denominator. -/
theorem quotV_apply (o : FVec Ideal S4x64x512 .f32) (d : FVec Ideal S4x512 .f32) (r : Fin 4) (e : Fin 64) (i : Fin 512) :
    quotV o d (ix3 r e i) = Ideal.div (o (ix3 r e i)) (d (ix2 r i)) := by
  pointwise [quotV]

variable (qf : Dev nD → qM.view.ty.Contents (Elt Ideal)) (own : Own Ideal)

/-- The denominators add up the rows' sums. -/
theorem den_apply (c : Dev nD) (g : Fin 4) (r : Fin 4) (i : Fin 512) : ∀ n : ℕ,
    den qf own c g n (ix2 r i) = ∑ t ∈ Finset.range (n + 1), rowsV (score qf own c g (Fin.ofNat 8 t)) (ix2 r i)
  | 0 => by
    rw [Finset.sum_range_one]
    show denV _ _ = _
    pointwise [denV]
    rfl
  | n + 1 => by
    rw [Finset.sum_range_succ, ← den_apply c g r i n]
    show denV _ _ = _
    pointwise [denV]
/-- The numerators add up the products. -/
theorem num_apply (c : Dev nD) (g : Fin 4) (r : Fin 4) (e : Fin 64) (i : Fin 512) : ∀ n : ℕ,
    num qf own c g n (ix3 r e i) = ∑ t ∈ Finset.range (n + 1), prod qf own c g (Fin.ofNat 8 t) (ix3 r e i)
  | 0 => by
    rw [Finset.sum_range_one]
    rfl
  | n + 1 => by
    rw [Finset.sum_range_succ, ← num_apply c g r e i n]
    show addf (castOut _) _ _ = _
    pointwise [castOut]

/-- What the last step leaves, as one quotient of sums over the steps. -/
theorem res_apply (c : Dev nD) (g : Fin 4) (r : Fin 4) (e : Fin 64) (i : Fin 512) :
    res qf own c g (ix3 r e i)
      = Ideal.div (∑ t : Fin 8, prod qf own c g t (ix3 r e i)) (∑ t : Fin 8, rowsV (score qf own c g t) (ix2 r i)) := by
  have h1 : addf (castOut (num qf own c g 6)) (prod qf own c g 7) (ix3 r e i) = num qf own c g 7 (ix3 r e i) := rfl
  have h2 : addf (den qf own c g 6) (rowsV (score qf own c g 7)) (ix2 r i)
      = ∑ t ∈ Finset.range 8, rowsV (score qf own c g (Fin.ofNat 8 t)) (ix2 r i) := by
    rw [Finset.sum_range_succ, ← den_apply qf own c g r i 6]; rfl
  unfold res
  rw [quotV_apply, h1, h2, num_apply, ← Fin.sum_univ_eq_sum_range (fun t => rowsV (score qf own c g (Fin.ofNat 8 t)) (ix2 r i)),
    ← Fin.sum_univ_eq_sum_range (fun t => prod qf own c g (Fin.ofNat 8 t) (ix3 r e i))]
  have h : ∀ t : Fin 8, Fin.ofNat 8 t.val = t := by decide
  simp only [h]

/-! ## What a step reads -/

/-- A device's own keys or values, by index. -/
def kvR (c : Dev nD) (kv : Fin 2) : S16x64x512.Idx → EReal := (ownM kv).view.read (Elt Ideal) (own c kv)

/-- A device's queries, by index. -/
def qR (c : Dev nD) : S16x512x64.Idx → EReal := qf c

/-- The four heads a group holds. -/
def headOf (g r : Fin 4) : Fin 16 := ⟨4 * g.val + r.val, by omega⟩

/-- A group of the queries. -/
theorem qP_apply (c : Dev nD) (g : Fin 4) (r : Fin 4) (i : Fin 512) (x : Fin 64) :
    qP qf c g (ix3 r i x) = qR qf c (ix3 (headOf g r) i x) := by
  show qR qf c _ = qR qf c _
  congr 1
  funext a
  apply Fin.ext
  match a with
  | ⟨0, _⟩ => show 4 * g.val + 1 * r.val = 4 * g.val + r.val; omega
  | ⟨1, _⟩ => show 0 + 1 * i.val = i.val; omega
  | ⟨2, _⟩ => show 0 + 1 * x.val = x.val; omega

/-- A group of the device's own. -/
theorem ownP_apply (c : Dev nD) (kv : Fin 2) (g : Fin 4) (r : Fin 4) (e : Fin 64) (j : Fin 512) :
    ownP own c kv g (ix3 r e j) = kvR own c kv (ix3 (headOf g r) e j) := by
  show kvR own c kv _ = kvR own c kv _
  congr 1
  funext a
  apply Fin.ext
  match a with
  | ⟨0, _⟩ => show 4 * g.val + 1 * r.val = 4 * g.val + r.val; omega
  | ⟨1, _⟩ => show 0 + 1 * e.val = e.val; omega
  | ⟨2, _⟩ => show 0 + 1 * j.val = j.val; omega

/-- The half a ring carries. -/
theorem halfV_apply (c : Dev nD) (kv d : Fin 2) (a : Fin 8) (e : Fin 64) (j : Fin 512) :
    halfV own c kv d (ix3 a e j) = kvR own c kv (ix3 (⟨8 * d.val + a.val, by omega⟩ : Fin 16) e j) := by
  show kvR own c kv _ = kvR own c kv _
  congr 1
  funext x
  apply Fin.ext
  match x with
  | ⟨0, _⟩ => show 8 * d.val + 1 * a.val = 8 * d.val + a.val; omega
  | ⟨1, _⟩ => show 0 + 1 * e.val = e.val; omega
  | ⟨2, _⟩ => show 0 + 1 * j.val = j.val; omega

/-- Half a slot. -/
theorem bufP_apply (c : Dev nD) (t : Fin 8) (kv d h : Fin 2) (r : Fin 4) (e : Fin 64) (j : Fin 512) :
    bufP own c t kv d h (ix5 (0 : Fin 1) (0 : Fin 1) r e j)
      = kvR own (srcD c d t) kv (ix3 (⟨8 * d.val + (4 * h.val + r.val), by omega⟩ : Fin 16) e j) := by
  have h1 : bufP own c t kv d h (ix5 (0 : Fin 1) (0 : Fin 1) r e j)
      = (bufM d).view.read (Elt Ideal) (gath own c d) ((partR t kv h).emb (ix5 (0 : Fin 1) (0 : Fin 1) r e j)) := rfl
  have h2 : (partR t kv h).emb (ix5 (0 : Fin 1) (0 : Fin 1) r e j) = ix5 t kv (⟨4 * h.val + r.val, by omega⟩ : Fin 8) e j := by
    funext a
    apply Fin.ext
    rw [Rect.emb_apply]
    match a with
    | ⟨0, _⟩ => show t.val + 1 * 0 = t.val; omega
    | ⟨1, _⟩ => show kv.val + 1 * 0 = kv.val; omega
    | ⟨2, _⟩ => show 4 * h.val + 1 * r.val = 4 * h.val + r.val; omega
    | ⟨3, _⟩ => show 0 + 1 * e.val = e.val; omega
    | ⟨4, _⟩ => show 0 + 1 * j.val = j.val; omega
  rw [h1, h2, read_gath]
  refine Eq.trans ?_ (halfV_apply own (srcD c d t) kv d (⟨4 * h.val + r.val, by omega⟩ : Fin 8) e j)
  show halfV own (srcD c d t) kv d _ = _
  rw [ix3_eq_valueIdx]
  rfl

/-- A group is half of a ring's share. -/
theorem ring_part (g : Fin 4) : 8 * (ringOf g).val + 4 * (partOf g).val = 4 * g.val := by revert g; decide

/-- What step `t` reads of group `g`: the keys or values of the device slot `t` stands for. -/
theorem blk_apply (c : Dev nD) (kv : Fin 2) (g : Fin 4) (r : Fin 4) (e : Fin 64) (j : Fin 512) : ∀ t : Fin 8,
    blk own c kv g t (ix3 r e j) = kvR own (srcD c (ringOf g) t) kv (ix3 (headOf g r) e j)
  | 0 => by
    rw [srcD_zero, ← ownP_apply]
    show ownV (ownP own c kv g) (ix3 r e j) = _
    pointwise [ownV]
  | ⟨n + 1, hn⟩ => by
    have h := bufP_apply own c ⟨n + 1, hn⟩ kv (ringOf g) (partOf g) r e j
    have h3 : (⟨8 * (ringOf g).val + (4 * (partOf g).val + r.val), by omega⟩ : Fin 16) = headOf g r := by
      have := ring_part g
      exact Fin.ext (by show 8 * (ringOf g).val + (4 * (partOf g).val + r.val) = 4 * g.val + r.val; omega)
    rw [h3] at h
    rw [← h]
    show bufV (bufP own c ⟨n + 1, hn⟩ kv (ringOf g) (partOf g)) (ix3 r e j) = _
    pointwise [bufV]

/-- The weight query `i` gives key `j` of device `s`, for head `n`. -/
def weight (c : Dev nD) (n : Fin 16) (i : Fin 512) (s : Dev nD) (j : Fin 512) : EReal :=
  Ideal.exp ((∑ x : Fin 64, qR qf c (ix3 n i x) * kvR own s 0 (ix3 n x j)) * scale)

/-- The weights of step `t`. -/
theorem score_apply (c : Dev nD) (g : Fin 4) (t : Fin 8) (r : Fin 4) (i j : Fin 512) :
    score qf own c g t (ix3 r i j) = weight qf own c (headOf g r) i (srcD c (ringOf g) t) j := by
  unfold score weight
  rw [scoreV_apply]
  simp only [blk_apply, qP_apply]

/-- The product of step `t`. -/
theorem prod_apply (c : Dev nD) (g : Fin 4) (t : Fin 8) (r : Fin 4) (e : Fin 64) (i : Fin 512) :
    prod qf own c g t (ix3 r e i)
      = ∑ j : Fin 512, kvR own (srcD c (ringOf g) t) 1 (ix3 (headOf g r) e j) * weight qf own c (headOf g r) i (srcD c (ringOf g) t) j := by
  unfold prod
  rw [prodV_apply]
  refine Finset.sum_congr rfl fun j _ => ?_
  rw [blk_apply]
  exact congrArg _ (score_apply qf own c g t r i j)

/-- Every device is met once along a ring. -/
theorem srcD_bij (c : Dev nD) (d : Fin 2) : Function.Bijective (srcD c d) := by
  revert c d
  have : ∀ (c : Fin 8) (d : Fin 2), Function.Injective (srcD c d) := by decide
  exact fun c d => Finite.injective_iff_bijective.mp (this c d)

/-- What the kernel leaves at an index: one quotient of sums over all devices' keys. -/
theorem outV_apply (c : Dev nD) (g r : Fin 4) (e : Fin 64) (i : Fin 512) :
    outV qf own c (ix3 (headOf g r) e i)
      = Ideal.div (∑ s : Dev nD, ∑ j : Fin 512, kvR own s 1 (ix3 (headOf g r) e j) * weight qf own c (headOf g r) i s j)
          (∑ s : Dev nD, ∑ j : Fin 512, weight qf own c (headOf g r) i s j) := by
  have hg : (⟨(headOf g r).val / 4, by have := (headOf g r).isLt; omega⟩ : Fin 4) = g :=
    Fin.ext (by show (4 * g.val + r.val) / 4 = g.val; omega)
  have hr : (⟨(headOf g r).val % 4, by omega⟩ : Fin 4) = r := Fin.ext (by show (4 * g.val + r.val) % 4 = r.val; omega)
  have h1 : outV qf own c (ix3 (headOf g r) e i)
      = res qf own c ⟨(headOf g r).val / 4, by have := (headOf g r).isLt; omega⟩ (ix3 (⟨(headOf g r).val % 4, by omega⟩ : Fin 4) e i) := by
    rw [ix3_eq_valueIdx, ix3_eq_valueIdx]
    rfl
  rw [h1, hg, hr, res_apply]
  congr 1
  · rw [← (srcD_bij c (ringOf g)).sum_comp fun s => ∑ j : Fin 512, kvR own s 1 (ix3 (headOf g r) e j) * weight qf own c (headOf g r) i s j]
    exact Finset.sum_congr rfl fun t _ => prod_apply qf own c g t r e i
  · rw [← (srcD_bij c (ringOf g)).sum_comp fun s => ∑ j : Fin 512, weight qf own c (headOf g r) i s j]
    refine Finset.sum_congr rfl fun t _ => ?_
    rw [rowsV_apply]
    exact Finset.sum_congr rfl fun j _ => score_apply qf own c g t r i j

end

end Cert.Attn

end
-- ==== Proof.Match.lean ====
/- The kernel's result is the reference's block, over the extended reals. -/
module

public import proofs.«01_k».proof.Proof.Value
public import Idealize.ShloMosaic.Lib.Layout

@[expose] public section

noncomputable section

namespace Cert.Attn

open Idealize.ShloMosaic Idealize.ShloMosaic.TcCoe

/-- A whole argument or result. -/
abbrev Whole : Type := (⟨4, ![2, 4096, 8, 64]⟩ : Shape).Idx → EReal
/-- Device `c`'s block of it. -/
abbrev blockOf (c : Fin 8) (X : Whole) : (⟨4, ![2, 512, 8, 64]⟩ : Shape).Idx → EReal :=
  Layout.block ⟨4, ![2, 512, 8, 64]⟩ ⟨4, ![2, 4096, 8, 64]⟩ 1 8 c X

/-- Position `i` of device `c`'s share of the sequence. -/
def pos (c : Fin 8) (i : Fin 512) : Fin 4096 := ⟨c.val * 512 + i.val, by omega⟩

/-- A block, by index. -/
theorem blockOf_apply (c : Fin 8) (X : Whole) (b : Fin 2) (i : Fin 512) (h : Fin 8) (e : Fin 64) :
    blockOf c X (ix4 b i h e) = X (ix4 b (pos c i) h e) := by
  show X _ = X _
  congr 1
  funext a
  apply Fin.ext
  match a with
  | ⟨0, _⟩ => rfl
  | ⟨1, _⟩ => rfl
  | ⟨2, _⟩ => rfl
  | ⟨3, _⟩ => rfl

/-- A sum over the sequence, device by device. -/
theorem sum_pos_eq (f : Fin 4096 → EReal) : ∑ k, f k = ∑ s : Fin 8, ∑ j : Fin 512, f (pos s j) :=
  Fin.sum_univ_tiles 8 512 (by decide) f

/-! ## The reference -/

section
open Cert.ReferenceIdeal Cert.ReferenceIdeal.Gen

/-- The scores. -/
def scoreR (Q K : FVec Ideal S2x4096x8x64 .f32) : FVec Ideal S2x8x4096x4096 .f32 :=
  mulf (Host.dotGeneral dot_S2x4096x8x64_S2x4096x8x64_S2x8x4096x4096_3_3_1_1_02_02 none Q K)
    (broadcastInDim S2x8x4096x4096 ![] bcast_S_S2x8x4096x4096 (constant S_ .f32 0x3E000000#32))
/-- Each row's greatest. -/
def maxR (S : FVec Ideal S2x8x4096x4096 .f32) : FVec Ideal S2x8x4096 .f32 :=
  Host.reduce FloatOps.maximumf S (constant S_ .f32 0xFF800000#32) reducesTo_S2x8x4096x4096_S2x8x4096_d3 h_S_
/-- A number for each row, along the row. -/
def alongR (M : FVec Ideal S2x8x4096 .f32) : FVec Ideal S2x8x4096x4096 .f32 :=
  broadcastInDim S2x8x4096x4096 ![0, 1, 2, 3] bcast_S2x8x4096x1_S2x8x4096x4096_0_1_2_3
    (broadcastInDim S2x8x4096x1 ![0, 1, 2] bcast_S2x8x4096_S2x8x4096x1_0_1_2 M)
/-- The weights, each divided by its row's sum. -/
def normR (E : FVec Ideal S2x8x4096x4096 .f32) : FVec Ideal S2x8x4096x4096 .f32 :=
  Host.divf E (alongR (Host.reduceAdd E (constant S_ .f32 0x00000000#32) reducesTo_S2x8x4096x4096_S2x8x4096_d3 h_S_))
/-- The shifted weights. -/
def expR (S : FVec Ideal S2x8x4096x4096 .f32) : FVec Ideal S2x8x4096x4096 .f32 := Host.exp (subf S (alongR (maxR S)))
/-- The reference's result. -/
def refR (Q K V : Whole) : Whole :=
  transpose S2x4096x8x64 [0, 3, 1, 2]
    (Host.dotGeneral (φ₁ := .f32) (φ₂ := .f32) (F := Ideal) dot_S2x4096x8x64_S2x8x4096x4096_S2x8x64x4096_1_3_3_2_02_01 none V (normR (expR (scoreR Q K))))
    transposes_S2x8x64x4096_S2x4096x8x64_0_3_1_2

/-- The scores, by index. -/
theorem scoreR_apply (Q K : FVec Ideal S2x4096x8x64 .f32) (b : Fin 2) (h : Fin 8) (q k : Fin 4096) :
    scoreR Q K (ix4 b h q k) = (∑ x : Fin 64, Q (ix4 b q h x) * K (ix4 b k h x)) * scale := by
  pointwise [scoreR]
/-- The greatest, by index. -/
theorem maxR_apply (S : FVec Ideal S2x8x4096x4096 .f32) (b : Fin 2) (h : Fin 8) (q : Fin 4096) :
    maxR S (ix3 b h q) = Finset.fold max (⊥ : EReal) (fun k => S (ix4 b h q k)) Finset.univ := by
  have hb : Ideal.ofBits .f32 0xFF800000#32 = (⊥ : EReal) := by simp [Ideal.ofBits, Ideal.ieee]
  pointwise [maxR]
  rw [hb]
/-- Along the row, by index. -/
theorem alongR_apply (M : FVec Ideal S2x8x4096 .f32) (b : Fin 2) (h : Fin 8) (q k : Fin 4096) :
    alongR M (ix4 b h q k) = M (ix3 b h q) := by
  pointwise [alongR]
/-- The shifted weights, by index. -/
theorem expR_apply (S : FVec Ideal S2x8x4096x4096 .f32) (b : Fin 2) (h : Fin 8) (q k : Fin 4096) :
    expR S (ix4 b h q k) = Ideal.exp (S (ix4 b h q k) - maxR S (ix3 b h q)) := by
  rw [← alongR_apply (maxR S) b h q k]
  rfl
/-- The divided weights, by index. -/
theorem normR_apply (E : FVec Ideal S2x8x4096x4096 .f32) (b : Fin 2) (h : Fin 8) (q k : Fin 4096) :
    normR E (ix4 b h q k) = Ideal.div (E (ix4 b h q k)) (∑ j : Fin 4096, E (ix4 b h q j)) := by
  pointwise [normR, alongR]
/-- The result, by index. -/
theorem refR_apply (Q K V : Whole) (b : Fin 2) (q : Fin 4096) (h : Fin 8) (e : Fin 64) :
    refR Q K V (ix4 b q h e) = ∑ k : Fin 4096, V (ix4 b k h e) * normR (expR (scoreR Q K)) (ix4 b h q k) := by
  pointwise [refR]

/-- The reference at an index, where the queries and keys are real: unshifted weights, divided by their sum at the end. -/
theorem refR_soft (Q K V : Whole) (hQ : ∀ i, ∃ r : ℝ, Q i = r) (hK : ∀ i, ∃ r : ℝ, K i = r) (b : Fin 2) (q : Fin 4096) (h : Fin 8) (e : Fin 64) :
    refR Q K V (ix4 b q h e)
      = Ideal.div (∑ k : Fin 4096, V (ix4 b k h e) * Ideal.exp ((∑ x : Fin 64, Q (ix4 b q h x) * K (ix4 b k h x)) * scale))
          (∑ k : Fin 4096, Ideal.exp ((∑ x : Fin 64, Q (ix4 b q h x) * K (ix4 b k h x)) * scale)) := by
  have hs : ∀ k : Fin 4096, ∃ r : ℝ, (∑ x : Fin 64, Q (ix4 b q h x) * K (ix4 b k h x)) * scale = (r : EReal) := fun k => by
    obtain ⟨a, ha⟩ := sum_real Finset.univ (fun x : Fin 64 => Q (ix4 b q h x)) (fun x => K (ix4 b k h x)) (fun _ => hQ _) (fun _ => hK _)
    obtain ⟨c, hc⟩ := scale_real
    exact ⟨a * c, by rw [ha, hc, EReal.coe_mul]⟩
  choose s hs using hs
  obtain ⟨M, hM⟩ := max_real (Finset.univ : Finset (Fin 4096)) Finset.univ_nonempty s
  have hm : maxR (scoreR Q K) (ix3 b h q) = (M : EReal) := by
    rw [maxR_apply, ← hM]
    exact congrArg (fun f => Finset.fold max (⊥ : EReal) f Finset.univ) (funext fun k => by rw [scoreR_apply, hs])
  rw [refR_apply]
  simp only [normR_apply, expR_apply, scoreR_apply, hs, hm]
  exact (soft s M fun k => V (ix4 b k h e)).symm

end

/-! ## The kernel -/

section
open Cert.KernelIdeal Cert.KernelIdeal.Gen

variable (m : (ℓ : Loc nD τ sig) → Buf (Elt Ideal) ℓ)

/-- The queries, as the region finds them. -/
theorem qOf_eq (c : Dev nD) : qR (qOf m) c
    = shapeCast S16x512x64 (transpose (α := EReal) S2x8x512x64 [0, 2, 1, 3] (m ((c : Thread nD τ).loc main_arg0)) transposes_S2x512x8x64_S2x8x512x64_0_2_1_3)
      shapeCasts_S2x8x512x64_S16x512x64 := by
  show V m c main_v2 = _
  unfold V V0 hostOps0
  simp only [List.flatten_cons, List.flatten_nil, List.append_nil]
  after_results
  rfl
/-- The keys, as the region finds them. -/
theorem kOf_eq (c : Dev nD) : kvR (ownOf m) c 0
    = shapeCast S16x64x512 (transpose (α := EReal) S2x8x64x512 [0, 2, 3, 1] (m ((c : Thread nD τ).loc main_arg1)) transposes_S2x512x8x64_S2x8x64x512_0_2_3_1)
      shapeCasts_S2x8x64x512_S16x64x512 := by
  show V m c main_v4 = _
  unfold V V0 hostOps0
  simp only [List.flatten_cons, List.flatten_nil, List.append_nil]
  after_results
  rfl
/-- The values, as the region finds them. -/
theorem vOf_eq (c : Dev nD) : kvR (ownOf m) c 1
    = shapeCast S16x64x512 (transpose (α := EReal) S2x8x64x512 [0, 2, 3, 1] (m ((c : Thread nD τ).loc main_arg2)) transposes_S2x512x8x64_S2x8x64x512_0_2_3_1)
      shapeCasts_S2x8x64x512_S16x64x512 := by
  show V m c main_v6 = _
  unfold V V0 hostOps0
  simp only [List.flatten_cons, List.flatten_nil, List.append_nil]
  after_results
  rfl

/-- A batch's head among all heads. -/
def rowOf (b : Fin 2) (h : Fin 8) : Fin 16 := ⟨b.val * 8 + h.val, by omega⟩
/-- It lies in a group. -/
theorem row_group (b : Fin 2) (h : Fin 8) : ∃ g r : Fin 4, rowOf b h = headOf g r := by revert b h; decide

/-- Rows of queries, split by batch and head. -/
theorem split_q (X : (⟨4, ![2, 512, 8, 64]⟩ : Shape).Idx → EReal) (b : Fin 2) (h : Fin 8) (i : Fin 512) (x : Fin 64) :
    shapeCast S16x512x64 (transpose (α := EReal) S2x8x512x64 [0, 2, 1, 3] X transposes_S2x512x8x64_S2x8x512x64_0_2_1_3)
      shapeCasts_S2x8x512x64_S16x512x64 (ix3 (rowOf b h) i x) = X (ix4 b i h x) := by
  have h1 : (rowOf b h).val / 8 = b.val := by show (b.val * 8 + h.val) / 8 = b.val; omega
  have h2 : (rowOf b h).val % 8 = h.val := by show (b.val * 8 + h.val) % 8 = h.val; omega
  pointwise
  exact congrArg₂ (fun (b' : Fin 2) (h' : Fin 8) => X (ix4 b' i h' x)) (Fin.ext h1) (Fin.ext h2)
/-- Columns of keys or values, split by batch and head. -/
theorem split_kv (X : (⟨4, ![2, 512, 8, 64]⟩ : Shape).Idx → EReal) (b : Fin 2) (h : Fin 8) (e : Fin 64) (j : Fin 512) :
    shapeCast S16x64x512 (transpose (α := EReal) S2x8x64x512 [0, 2, 3, 1] X transposes_S2x512x8x64_S2x8x64x512_0_2_3_1)
      shapeCasts_S2x8x64x512_S16x64x512 (ix3 (rowOf b h) e j) = X (ix4 b j h e) := by
  have h1 : (rowOf b h).val / 8 = b.val := by show (b.val * 8 + h.val) / 8 = b.val; omega
  have h2 : (rowOf b h).val % 8 = h.val := by show (b.val * 8 + h.val) % 8 = h.val; omega
  pointwise
  exact congrArg₂ (fun (b' : Fin 2) (h' : Fin 8) => X (ix4 b' j h' e)) (Fin.ext h1) (Fin.ext h2)

/-- The kernel's result, by index. -/
theorem finalOf_apply (c : Dev nD) (b : Fin 2) (q : Fin 512) (h : Fin 8) (e : Fin 64) :
    (finalOf m c : S2x512x8x64.Idx → EReal) (ix4 b q h e) = outOf m c (ix3 (rowOf b h) e q) := by
  unfold finalOf
  pointwise
  rfl

/-- Where the queries and keys are real, each device's result is its block of the reference's. -/
theorem final_eq (Q K V : Whole) (hQ : ∀ c : Dev nD, m ((c : Thread nD τ).loc main_arg0) = blockOf c Q)
    (hK : ∀ c : Dev nD, m ((c : Thread nD τ).loc main_arg1) = blockOf c K) (hV : ∀ c : Dev nD, m ((c : Thread nD τ).loc main_arg2) = blockOf c V)
    (hQr : ∀ i, ∃ r : ℝ, Q i = r) (hKr : ∀ i, ∃ r : ℝ, K i = r) (c : Dev nD) :
    (finalOf m c : S2x512x8x64.Idx → EReal) = blockOf c (refR Q K V) := by
  funext i
  obtain ⟨b, q, h, e, rfl⟩ : ∃ (b : Fin 2) (q : Fin 512) (h : Fin 8) (e : Fin 64), i = ix4 b q h e := ⟨i 0, i 1, i 2, i 3, eq_ix4 i⟩
  have hq : ∀ x : Fin 64, qR (qOf m) c (ix3 (rowOf b h) q x) = Q (ix4 b (pos c q) h x) := fun x => by
    rw [qOf_eq, hQ, split_q, blockOf_apply]
  have hk : ∀ (s : Dev nD) (x : Fin 64) (j : Fin 512), kvR (ownOf m) s 0 (ix3 (rowOf b h) x j) = K (ix4 b (pos s j) h x) := fun s x j => by
    rw [kOf_eq, hK, split_kv, blockOf_apply]
  have hv : ∀ (s : Dev nD) (j : Fin 512), kvR (ownOf m) s 1 (ix3 (rowOf b h) e j) = V (ix4 b (pos s j) h e) := fun s j => by
    rw [vOf_eq, hV, split_kv, blockOf_apply]
  rw [finalOf_apply, blockOf_apply, refR_soft Q K V hQr hKr, sum_pos_eq, sum_pos_eq]
  obtain ⟨g, r, hr⟩ := row_group b h
  unfold outOf
  rw [hr] at hq hk hv ⊢
  rw [outV_apply]
  simp only [weight, hq, hk, hv]

end

end Cert.Attn

end
-- ==== Proof.Algebraic.lean ====
/- The value claim: from finite queries and keys, each device's result is its block of the reference's. -/
module

public import proofs.«01_k».proof.Defs
public import proofs.«01_k».proof.Proof.Gen.ReferenceIdeal
public import proofs.«01_k».proof.Proof.Gen.ReferenceIdeal.Run
public import proofs.«01_k».proof.Proof.Match
public import Idealize.ShloMosaic.Lib.Quiescent

@[expose] public section

noncomputable section

namespace Cert.Attn

open Idealize.ShloMosaic Idealize.ShloMosaic.TcCoe Idealize.SL.Sem

/-- The predicate's one broadcast is of a scalar. -/
theorem pre_kernel_facts : Cert.Pre_finite_qk_KernelIdeal.Facts := ⟨by decide⟩
/-- So is the one it is read with on whole arrays. -/
theorem pre_reference_facts : Cert.Pre_finite_qk_ReferenceIdeal.Facts := ⟨by decide⟩

/-- Where the comparison with infinity says one, the number is real. -/
theorem real_of_mask (x : EReal) (h : Ideal.cmp .olt (max x (-x)) (Ideal.ofBits .bf16 0x7F80#16) = 1#1) : ∃ r : ℝ, x = r := by
  have ht : Ideal.ofBits .bf16 0x7F80#16 = (⊤ : EReal) := by simp [Ideal.ofBits, Ideal.ieee]
  rw [ht] at h
  refine real_of_abs_lt x ?_
  by_contra hn
  simp [Ideal.cmp, hn] at h

/-- A whole array is real where every device's block of it is. -/
theorem whole_real (X : Whole) (h : ∀ (c : Fin 8) i, ∃ r : ℝ, blockOf c X i = r) (i : (⟨4, ![2, 4096, 8, 64]⟩ : Shape).Idx) :
    ∃ r : ℝ, X i = r := by
  obtain ⟨b, k, n, e, rfl⟩ : ∃ (b : Fin 2) (k : Fin 4096) (n : Fin 8) (e : Fin 64), i = ix4 b k n e := ⟨i 0, i 1, i 2, i 3, eq_ix4 i⟩
  have hk : pos ⟨k.val / 512, by omega⟩ ⟨k.val % 512, by omega⟩ = k := Fin.ext (by
    show k.val / 512 * 512 + k.val % 512 = k.val
    omega)
  obtain ⟨r, hr⟩ := h ⟨k.val / 512, by omega⟩ (ix4 b ⟨k.val % 512, by omega⟩ n e)
  exact ⟨r, by rw [← hr, blockOf_apply, hk]⟩

/-- What the reference's run leaves in its result. -/
theorem run_reference (m' : (ℓ : Loc Cert.ReferenceIdeal.nD Cert.ReferenceIdeal.τ Cert.ReferenceIdeal.sig) → Buf (Elt Ideal) ℓ)
    (g' : Dev Cert.ReferenceIdeal.nD → PrngReg) (c : Dev Cert.ReferenceIdeal.nD) :
    θ_run (Cert.ReferenceIdeal.defs (F := Ideal)) (onTc (τ := Cert.ReferenceIdeal.τ) (Cert.ReferenceIdeal.main (F := Ideal))) ⟨m', fun _ => 0, g'⟩ (fun r =>
      r.2.mem (c.tc.loc Cert.ReferenceIdeal.main_v16)
          = refR (m' (c.tc.loc Cert.ReferenceIdeal.main_arg0)) (m' (c.tc.loc Cert.ReferenceIdeal.main_arg1)) (m' (c.tc.loc Cert.ReferenceIdeal.main_arg2))
        ∧ r.2.mem (c.tc.loc Cert.ReferenceIdeal.main_arg0) = m' (c.tc.loc Cert.ReferenceIdeal.main_arg0)
        ∧ r.2.mem (c.tc.loc Cert.ReferenceIdeal.main_arg1) = m' (c.tc.loc Cert.ReferenceIdeal.main_arg1)
        ∧ r.2.mem (c.tc.loc Cert.ReferenceIdeal.main_arg2) = m' (c.tc.loc Cert.ReferenceIdeal.main_arg2)) :=
  (θ_run Cert.ReferenceIdeal.defs _ _).mono (fun r h => ⟨(h c).1.trans rfl, (h c).2⟩) (Cert.ReferenceIdeal.Value.run (F := Ideal) m' g')

/-- The value claim. -/
theorem value_claim : Cert.algebraic_KernelIdeal_ReferenceIdeal_pre_finite_qk_KernelIdeal
    (hKernelIdeal := Cert.KernelIdeal.Gen.facts) (hReferenceIdeal := Cert.ReferenceIdeal.Gen.facts)
    (hPre_finite_qk_KernelIdeal := pre_kernel_facts) := fun m g m' g' hp hb => by
  have hQ : ∀ i, ∃ r : ℝ, (m' ((0 : Dev Cert.ReferenceIdeal.nD).tc.loc Cert.ReferenceIdeal.main_arg0) : Whole) i = (r : EReal) :=
    whole_real _ fun c i => by
      obtain ⟨r, hr⟩ := real_of_mask _ (congrFun (hp c).1 i)
      exact ⟨r, (congrFun (hb c).1 i).symm.trans hr⟩
  have hK : ∀ i, ∃ r : ℝ, (m' ((0 : Dev Cert.ReferenceIdeal.nD).tc.loc Cert.ReferenceIdeal.main_arg1) : Whole) i = (r : EReal) :=
    whole_real _ fun c i => by
      obtain ⟨r, hr⟩ := real_of_mask _ (congrFun (hp c).2 i)
      exact ⟨r, (congrFun (hb c).2.1 i).symm.trans hr⟩
  refine ⟨_, (θ_run Cert.KernelIdeal.defs _ _).mono (fun r h c => ⟨(h.1 c).2.trans ?_, (h.1 c).1⟩) (run_main (F := Ideal) m g), run_reference m' g' 0⟩
  exact final_eq m _ _ _ (fun c => (hb c).1) (fun c => (hb c).2.1) (fun c => (hb c).2.2) hQ hK c

end Cert.Attn

end
-- ==== Proof.lean ====
/- All the claims: the frames of the kernel, of its idealization and of the reference, each with and without the precondition where both are
   stated; that no rule rewrote the kernel; and that, from finite queries and keys, kernel and reference compute the same. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Algebraic
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs on every bit pattern, leaves its arguments alone and every counter at zero: the run of the idealization, whose
    text is the same, read at the bits. -/
theorem frame_kernel : Cert.quiescent_Kernel := fun m ρ _ => by
  rw [Cert.Attn.defs_same]
  exact Cert.Attn.run_frame (F := Bits) m ρ

/-- So does the idealization. -/
theorem frame_kernelIdeal : Cert.quiescent_KernelIdeal := fun m ρ _ => Cert.Attn.run_frame (F := Ideal) m ρ

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- All that is claimed. -/
theorem claim : Cert.Claim := ⟨Cert.Kernel.Gen.facts, Cert.KernelIdeal.Gen.facts, Cert.ReferenceIdeal.Gen.facts,
  Cert.Attn.pre_kernel_facts, Cert.Attn.pre_reference_facts,
  frame_kernel, frame_kernelIdeal, fun m ρ _ => frame_kernelIdeal m ρ trivial,
  frame_reference, fun m ρ _ => frame_reference m ρ trivial, trivial, Cert.Attn.value_claim⟩

end Cert.Proof

end
